-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_KernelIdeal [hPre_usable_KernelIdeal : Cert.Pre_usable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_ReferenceIdeal [hPre_usable_ReferenceIdeal : Cert.Pre_usable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_usable_KernelIdeal [hKernelIdeal : Cert.KernelIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_usable_ReferenceIdeal [hReferenceIdeal : Cert.ReferenceIdeal.Facts] [hPre_usable_ReferenceIdeal : Cert.Pre_usable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_usable_KernelIdeal [hKernelIdeal : Cert.KernelIdeal.Facts] [hReferenceIdeal : Cert.ReferenceIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![1024, 32, 16, 128]⟩ (Layout.meshBlock [2, 2, 4] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![1024, 32, 16, 128]⟩ (Layout.meshBlock [2, 2, 4] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_usable_KernelIdeal : Cert.Pre_usable_KernelIdeal.Facts) (hPre_usable_ReferenceIdeal : Cert.Pre_usable_ReferenceIdeal.Facts),
    quiescent_Kernel (hKernel := hKernel)
    ∧ quiescent_KernelIdeal (hKernelIdeal := hKernelIdeal)
    ∧ quiescent_KernelIdeal_pre_usable_KernelIdeal (hKernelIdeal := hKernelIdeal) (hPre_usable_KernelIdeal := hPre_usable_KernelIdeal)
    ∧ quiescent_ReferenceIdeal (hReferenceIdeal := hReferenceIdeal)
    ∧ quiescent_ReferenceIdeal_pre_usable_ReferenceIdeal (hReferenceIdeal := hReferenceIdeal) (hPre_usable_ReferenceIdeal := hPre_usable_ReferenceIdeal)
    ∧ preserves_Kernel_KernelIdeal
    ∧ algebraic_KernelIdeal_ReferenceIdeal_pre_usable_KernelIdeal (hKernelIdeal := hKernelIdeal) (hReferenceIdeal := hReferenceIdeal) (hPre_usable_KernelIdeal := hPre_usable_KernelIdeal)
-- ==== Pre_usable_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32x1 : Shape := ⟨2, ![32, 1]⟩
abbrev S256 : Shape := ⟨1, ![256]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  bcast_S_S256x32x16x128 : S_.BroadcastsInDim S256x32x16x128 (![] : Fin 0 → Fin S256x32x16x128.rank)
  bcast_S_S32x256 : S_.BroadcastsInDim S32x256 (![] : Fin 0 → Fin S32x256.rank)
  bcast_S_S32x1 : S_.BroadcastsInDim S32x1 (![] : Fin 0 → Fin S32x1.rank)

variable [Facts]

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32x1 32) : IVec S32x1x16x128 1 × IVec S256x32x16x128 1 × IVec S32x256 1 × IVec S32x1 1 :=
  let main_v0 : IVec S256 32 := iotaInDim S256 32 0
  let main_v1 : IVec S1x256 32 := broadcastInDim S1x256 ![1] bcast_S256_S1x256_1 main_v0
  let main_v2 : IVec S32x256 32 := broadcastInDim S32x256 ![0, 1] bcast_S1x256_S32x256_0_1 main_v1
  let main_v3 : IVec S32x256 32 := broadcastInDim S32x256 ![0, 1] bcast_S32x1_S32x256_0_1 main_arg4
  let main_v4 : IVec S32x256 1 := cmpi .sge main_v2 main_v3
  let main_v5 : FVec F S32x1x16x128 .f32 := Host.absf main_arg0
  let main_cst : FVec F S_ .f32 := constant S_ .f32 0x7F800000#32
  let main_v6 : FVec F S32x1x16x128 .f32 := broadcastInDim S32x1x16x128 ![] bcast_S_S32x1x16x128 main_cst
  let main_v7 : IVec S32x1x16x128 1 := cmpf .olt main_v5 main_v6
  let main_v8 : FVec F S256x32x16x128 .f32 := Host.absf main_arg1
  let main_cst_0 : FVec F S_ .f32 := constant S_ .f32 0x7F800000#32
  let main_v9 : FVec F S256x32x16x128 .f32 := broadcastInDim S256x32x16x128 ![] bcast_S_S256x32x16x128 main_cst_0
  let main_v10 : IVec S256x32x16x128 1 := cmpf .olt main_v8 main_v9
  let main_c : IVec S_ 32 := constantI S_ 32 0#32
  let main_v11 : IVec S32x256 32 := broadcastInDim S32x256 ![] bcast_S_S32x256 main_c
  let main_v12 : IVec S32x256 1 := cmpi .sge main_arg3 main_v11
  let main_c_1 : IVec S_ 32 := constantI S_ 32 1024#32
  let main_v13 : IVec S32x256 32 := broadcastInDim S32x256 ![] bcast_S_S32x256 main_c_1
  let main_v14 : IVec S32x256 1 := cmpi .slt main_arg3 main_v13
  let main_v15 : IVec S32x256 1 := andi main_v12 main_v14
  let main_v16 : IVec S32x256 1 := ori main_v4 main_v15
  let main_c_2 : IVec S_ 32 := constantI S_ 32 1#32
  let main_v17 : IVec S32x1 32 := broadcastInDim S32x1 ![] bcast_S_S32x1 main_c_2
  let main_v18 : IVec S32x1 1 := cmpi .sge main_arg4 main_v17
  (main_v7, main_v10, main_v16, main_v18)
-- ==== Pre_usable_ReferenceIdeal.lean ====
abbrev S32x1x16x128 : Shape := ⟨4, ![32, 1, 16, 128]⟩
abbrev S1024x32x16x128 : Shape := ⟨4, ![1024, 32, 16, 128]⟩
abbrev S32x256 : Shape := ⟨2, ![32, 256]⟩
abbrev S32x1 : Shape := ⟨2, ![32, 1]⟩
abbrev S256 : Shape := ⟨1, ![256]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  bcast_S_S1024x32x16x128 : S_.BroadcastsInDim S1024x32x16x128 (![] : Fin 0 → Fin S1024x32x16x128.rank)
  bcast_S_S32x256 : S_.BroadcastsInDim S32x256 (![] : Fin 0 → Fin S32x256.rank)
  bcast_S_S32x1 : S_.BroadcastsInDim S32x1 (![] : Fin 0 → Fin S32x1.rank)

variable [Facts]

def fn {F : FTy → Type} [FloatOps F] (main_arg0 : FVec F S32x1x16x128 .f32) (main_arg1 : FVec F S1024x32x16x128 .f32) (main_arg2 : FVec F S1024x32x16x128 .f32) (main_arg3 : IVec S32x256 32) (main_arg4 : IVec S32x1 32) : IVec S32x1x16x128 1 × IVec S1024x32x16x128 1 × IVec S32x256 1 × IVec S32x1 1 :=
  let main_v0 : IVec S256 32 := iotaInDim S256 32 0
  let main_v1 : IVec S1x256 32 := broadcastInDim S1x256 ![1] bcast_S256_S1x256_1 main_v0
  let main_v2 : IVec S32x256 32 := broadcastInDim S32x256 ![0, 1] bcast_S1x256_S32x256_0_1 main_v1
  let main_v3 : IVec S32x256 32 := broadcastInDim S32x256 ![0, 1] bcast_S32x1_S32x256_0_1 main_arg4
  let main_v4 : IVec S32x256 1 := cmpi .sge main_v2 main_v3
  let main_v5 : FVec F S32x1x16x128 .f32 := Host.absf main_arg0
  let main_cst : FVec F S_ .f32 := constant S_ .f32 0x7F800000#32
  let main_v6 : FVec F S32x1x16x128 .f32 := broadcastInDim S32x1x16x128 ![] bcast_S_S32x1x16x128 main_cst
  let main_v7 : IVec S32x1x16x128 1 := cmpf .olt main_v5 main_v6
  let main_v8 : FVec F S1024x32x16x128 .f32 := Host.absf main_arg1
  let main_cst_0 : FVec F S_ .f32 := constant S_ .f32 0x7F800000#32
  let main_v9 : FVec F S1024x32x16x128 .f32 := broadcastInDim S1024x32x16x128 ![] bcast_S_S1024x32x16x128 main_cst_0
  let main_v10 : IVec S1024x32x16x128 1 := cmpf .olt main_v8 main_v9
  let main_c : IVec S_ 32 := constantI S_ 32 0#32
  let main_v11 : IVec S32x256 32 := broadcastInDim S32x256 ![] bcast_S_S32x256 main_c
  let main_v12 : IVec S32x256 1 := cmpi .sge main_arg3 main_v11
  let main_c_1 : IVec S_ 32 := constantI S_ 32 1024#32
  let main_v13 : IVec S32x256 32 := broadcastInDim S32x256 ![] bcast_S_S32x256 main_c_1
  let main_v14 : IVec S32x256 1 := cmpi .slt main_arg3 main_v13
  let main_v15 : IVec S32x256 1 := andi main_v12 main_v14
  let main_v16 : IVec S32x256 1 := ori main_v4 main_v15
  let main_c_2 : IVec S_ 32 := constantI S_ 32 1#32
  let main_v17 : IVec S32x1 32 := broadcastInDim S32x1 ![] bcast_S_S32x1 main_c_2
  let main_v18 : IVec S32x1 1 := cmpi .sge main_arg4 main_v17
  (main_v7, main_v10, main_v16, main_v18)
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32x1 : Shape := ⟨2, ![32, 1]⟩
abbrev S32x32x16x128 : Shape := ⟨4, ![32, 32, 16, 128]⟩
abbrev S32x2048 : Shape := ⟨2, ![32, 2048]⟩
abbrev S32x16 : Shape := ⟨2, ![32, 16]⟩
abbrev S3x32x2048 : Shape := ⟨3, ![3, 32, 2048]⟩
abbrev S3x32x16 : Shape := ⟨3, ![3, 32, 16]⟩
abbrev S3x3 : Shape := ⟨2, ![3, 3]⟩
abbrev S_ : Shape := ⟨0, ![]⟩
abbrev S32x32x256 : Shape := ⟨3, ![32, 32, 256]⟩
abbrev S32x1x256 : Shape := ⟨3, ![32, 1, 256]⟩
abbrev S32x32 : Shape := ⟨2, ![32, 32]⟩
abbrev S32x1024 : Shape := ⟨2, ![32, 1024]⟩
abbrev S16x32x32x128 : Shape := ⟨4, ![16, 32, 32, 128]⟩
abbrev S32x1x1x128 : Shape := ⟨4, ![32, 1, 1, 128]⟩
abbrev S32x128 : Shape := ⟨2, ![32, 128]⟩
abbrev S1x32x32x128 : Shape := ⟨4, ![1, 32, 32, 128]⟩
abbrev S32x32x128 : Shape := ⟨3, ![32, 32, 128]⟩
abbrev S1024x128 : Shape := ⟨2, ![1024, 128]⟩
abbrev S32 : Shape := ⟨1, ![32]⟩
abbrev S1x1 : Shape := ⟨2, ![1, 1]⟩
abbrev S1x32x2048 : Shape := ⟨3, ![1, 32, 2048]⟩
abbrev S1x32x16 : Shape := ⟨3, ![1, 32, 16]⟩
abbrev S1x32x128 : Shape := ⟨3, ![1, 32, 128]⟩

abbrev nBuf : Space → Nat
  | .hbm => 6
  | .vmem => 16
  | .smem => 0
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32x1, .i32⟩
  | .hbm, ⟨5, _⟩ => ⟨S32x1x16x128, .f32⟩
  | .local _ .vmem, ⟨0, _⟩ => ⟨S32x1x16x128, .f32⟩
  | .local _ .vmem, ⟨1, _⟩ => ⟨S32x32x16x128, .f32⟩
  | .local _ .vmem, ⟨2, _⟩ => ⟨S32x32x16x128, .f32⟩
  | .local _ .vmem, ⟨3, _⟩ => ⟨S32x32x16x128, .f32⟩
  | .local _ .vmem, ⟨4, _⟩ => ⟨S32x32x16x128, .f32⟩
  | .local _ .vmem, ⟨5, _⟩ => ⟨S32x256, .i32⟩
  | .local _ .vmem, ⟨6, _⟩ => ⟨S32x1, .i32⟩
  | .local _ .vmem, ⟨7, _⟩ => ⟨S32x1x16x128, .f32⟩
  | .local _ .vmem, ⟨8, _⟩ => ⟨S32x2048, .bf16⟩
  | .local _ .vmem, ⟨9, _⟩ => ⟨S32x16, .f32⟩
  | .local _ .vmem, ⟨10, _⟩ => ⟨S32x16, .f32⟩
  | .local _ .vmem, ⟨11, _⟩ => ⟨S32x2048, .f32⟩
  | .local _ .vmem, ⟨12, _⟩ => ⟨S32x256, .i32⟩
  | .local _ .vmem, ⟨13, _⟩ => ⟨S3x32x2048, .bf16⟩
  | .local _ .vmem, ⟨14, _⟩ => ⟨S3x32x16, .f32⟩
  | .local _ .vmem, ⟨15, _⟩ => ⟨S3x32x16, .f32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev barrier0 : Sem sig := 0

abbrev nD : Nat := 16
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_2 : BitVec 32 := 0#32
  let v11 : BitVec 1 := Scalar.cmpi .ne v10 c0_i32_2
  v11

def k0_dev1 (d0 : Dev nD) : Nat :=
  let c0_i32_336 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_335 : BitVec 32 := 8#32
  let v716 : BitVec 32 := Scalar.muli v2 c8_i32_335
  let v717 : BitVec 32 := Scalar.addi c0_i32_336 v716
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_337 : BitVec 32 := 4#32
  let v718 : BitVec 32 := Scalar.muli v5 c4_i32_337
  let v719 : BitVec 32 := Scalar.addi v717 v718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v705 : BitVec 32 := Scalar.addi v8 c1_i32_327
  let c4_i32_328 : BitVec 32 := 4#32
  let c0_i32_329 : BitVec 32 := 0#32
  let v706 : BitVec 1 := Scalar.cmpi .eq c4_i32_328 c0_i32_329
  let c1_i32_330 : BitVec 32 := 1#32
  let v707 : BitVec 32 := Scalar.select v706 c1_i32_330 c4_i32_328
  let v708 : BitVec 32 := Scalar.remsi v705 v707
  let c0_i32_332 : BitVec 32 := 0#32
  let v710 : BitVec 1 := Scalar.cmpi .slt v708 c0_i32_332
  let c0_i32_333 : BitVec 32 := 0#32
  let v711 : BitVec 1 := Scalar.cmpi .slt v707 c0_i32_333
  let v712 : BitVec 1 := Scalar.xori v710 v711
  let c0_i32_331 : BitVec 32 := 0#32
  let v709 : BitVec 1 := Scalar.cmpi .ne v708 c0_i32_331
  let v713 : BitVec 1 := Scalar.andi v712 v709
  let v714 : BitVec 32 := Scalar.addi v708 v707
  let v715 : BitVec 32 := Scalar.select v713 v714 v708
  let c1_i32_338 : BitVec 32 := 1#32
  let v720 : BitVec 32 := Scalar.muli v715 c1_i32_338
  let v721 : BitVec 32 := Scalar.addi v719 v720
  v721.toNat
def k0_dev2 (d0 : Dev nD) : Nat :=
  let c0_i32_348 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_347 : BitVec 32 := 8#32
  let v733 : BitVec 32 := Scalar.muli v2 c8_i32_347
  let v734 : BitVec 32 := Scalar.addi c0_i32_348 v733
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_349 : BitVec 32 := 4#32
  let v735 : BitVec 32 := Scalar.muli v5 c4_i32_349
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_339 : BitVec 32 := 2#32
  let v722 : BitVec 32 := Scalar.addi v8 c2_i32_339
  let c4_i32_340 : BitVec 32 := 4#32
  let c0_i32_341 : BitVec 32 := 0#32
  let v723 : BitVec 1 := Scalar.cmpi .eq c4_i32_340 c0_i32_341
  let c1_i32_342 : BitVec 32 := 1#32
  let v724 : BitVec 32 := Scalar.select v723 c1_i32_342 c4_i32_340
  let v725 : BitVec 32 := Scalar.remsi v722 v724
  let c0_i32_344 : BitVec 32 := 0#32
  let v727 : BitVec 1 := Scalar.cmpi .slt v725 c0_i32_344
  let c0_i32_345 : BitVec 32 := 0#32
  let v728 : BitVec 1 := Scalar.cmpi .slt v724 c0_i32_345
  let v729 : BitVec 1 := Scalar.xori v727 v728
  let c0_i32_343 : BitVec 32 := 0#32
  let v726 : BitVec 1 := Scalar.cmpi .ne v725 c0_i32_343
  let v730 : BitVec 1 := Scalar.andi v729 v726
  let v731 : BitVec 32 := Scalar.addi v725 v724
  let v732 : BitVec 32 := Scalar.select v730 v731 v725
  let c1_i32_350 : BitVec 32 := 1#32
  let v737 : BitVec 32 := Scalar.muli v732 c1_i32_350
  let v738 : BitVec 32 := Scalar.addi v736 v737
  v738.toNat
def k0_dev3 (d0 : Dev nD) : Nat :=
  let c0_i32_359 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_358 : BitVec 32 := 8#32
  let v750 : BitVec 32 := Scalar.muli v2 c8_i32_358
  let v751 : BitVec 32 := Scalar.addi c0_i32_359 v750
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_360 : BitVec 32 := 4#32
  let v752 : BitVec 32 := Scalar.muli v5 c4_i32_360
  let v753 : BitVec 32 := Scalar.addi v751 v752
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v739 : BitVec 32 := Scalar.addi v8 c3_i32
  let c4_i32_351 : BitVec 32 := 4#32
  let c0_i32_352 : BitVec 32 := 0#32
  let v740 : BitVec 1 := Scalar.cmpi .eq c4_i32_351 c0_i32_352
  let c1_i32_353 : BitVec 32 := 1#32
  let v741 : BitVec 32 := Scalar.select v740 c1_i32_353 c4_i32_351
  let v742 : BitVec 32 := Scalar.remsi v739 v741
  let c0_i32_355 : BitVec 32 := 0#32
  let v744 : BitVec 1 := Scalar.cmpi .slt v742 c0_i32_355
  let c0_i32_356 : BitVec 32 := 0#32
  let v745 : BitVec 1 := Scalar.cmpi .slt v741 c0_i32_356
  let v746 : BitVec 1 := Scalar.xori v744 v745
  let c0_i32_354 : BitVec 32 := 0#32
  let v743 : BitVec 1 := Scalar.cmpi .ne v742 c0_i32_354
  let v747 : BitVec 1 := Scalar.andi v746 v743
  let v748 : BitVec 32 := Scalar.addi v742 v741
  let v749 : BitVec 32 := Scalar.select v747 v748 v742
  let c1_i32_361 : BitVec 32 := 1#32
  let v754 : BitVec 32 := Scalar.muli v749 c1_i32_361
  let v755 : BitVec 32 := Scalar.addi v753 v754
  v755.toNat
def k0_cond2 (i : grid0.Coords) : BitVec 1 :=
  let arg0 : BitVec 32 := BitVec.ofNat 32 (i 0).val
  let c7_i32 : BitVec 32 := 7#32
  let v701 : BitVec 1 := Scalar.cmpi .eq arg0 c7_i32
  let v702 : BitVec 32 := Scalar.extui v701
  let c0_i32_326 : BitVec 32 := 0#32
  let v703 : BitVec 1 := Scalar.cmpi .ne v702 c0_i32_326
  v703

def k0_dev4 (d0 : Dev nD) : Nat :=
  let c0_i32_344 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_343 : BitVec 32 := 8#32
  let v720 : BitVec 32 := Scalar.muli v2 c8_i32_343
  let v721 : BitVec 32 := Scalar.addi c0_i32_344 v720
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_345 : BitVec 32 := 4#32
  let v722 : BitVec 32 := Scalar.muli v5 c4_i32_345
  let v723 : BitVec 32 := Scalar.addi v721 v722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v709 : BitVec 32 := Scalar.addi v8 c1_i32_331
  let c4_i32_332 : BitVec 32 := 4#32
  let c0_i32_333 : BitVec 32 := 0#32
  let v710 : BitVec 1 := Scalar.cmpi .eq c4_i32_332 c0_i32_333
  let c1_i32_334 : BitVec 32 := 1#32
  let v711 : BitVec 32 := Scalar.select v710 c1_i32_334 c4_i32_332
  let v712 : BitVec 32 := Scalar.remsi v709 v711
  let c0_i32_336 : BitVec 32 := 0#32
  let v714 : BitVec 1 := Scalar.cmpi .slt v712 c0_i32_336
  let c0_i32_337 : BitVec 32 := 0#32
  let v715 : BitVec 1 := Scalar.cmpi .slt v711 c0_i32_337
  let v716 : BitVec 1 := Scalar.xori v714 v715
  let c0_i32_335 : BitVec 32 := 0#32
  let v713 : BitVec 1 := Scalar.cmpi .ne v712 c0_i32_335
  let v717 : BitVec 1 := Scalar.andi v716 v713
  let v718 : BitVec 32 := Scalar.addi v712 v711
  let v719 : BitVec 32 := Scalar.select v717 v718 v712
  let c1_i32_346 : BitVec 32 := 1#32
  let v724 : BitVec 32 := Scalar.muli v719 c1_i32_346
  let v725 : BitVec 32 := Scalar.addi v723 v724
  v725.toNat
def k0_dev5 (d0 : Dev nD) : Nat :=
  let c0_i32_355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_354 : BitVec 32 := 8#32
  let v732 : BitVec 32 := Scalar.muli v2 c8_i32_354
  let v733 : BitVec 32 := Scalar.addi c0_i32_355 v732
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v734 : BitVec 32 := Scalar.muli v5 c4_i32_356
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v709 : BitVec 32 := Scalar.addi v8 c1_i32_331
  let c4_i32_332 : BitVec 32 := 4#32
  let c0_i32_333 : BitVec 32 := 0#32
  let v710 : BitVec 1 := Scalar.cmpi .eq c4_i32_332 c0_i32_333
  let c1_i32_334 : BitVec 32 := 1#32
  let v711 : BitVec 32 := Scalar.select v710 c1_i32_334 c4_i32_332
  let v712 : BitVec 32 := Scalar.remsi v709 v711
  let c0_i32_336 : BitVec 32 := 0#32
  let v714 : BitVec 1 := Scalar.cmpi .slt v712 c0_i32_336
  let c0_i32_337 : BitVec 32 := 0#32
  let v715 : BitVec 1 := Scalar.cmpi .slt v711 c0_i32_337
  let v716 : BitVec 1 := Scalar.xori v714 v715
  let c0_i32_335 : BitVec 32 := 0#32
  let v713 : BitVec 1 := Scalar.cmpi .ne v712 c0_i32_335
  let v717 : BitVec 1 := Scalar.andi v716 v713
  let v718 : BitVec 32 := Scalar.addi v712 v711
  let v719 : BitVec 32 := Scalar.select v717 v718 v712
  let c1_i32_357 : BitVec 32 := 1#32
  let v736 : BitVec 32 := Scalar.muli v719 c1_i32_357
  let v737 : BitVec 32 := Scalar.addi v735 v736
  v737.toNat
def k0_dev6 (d0 : Dev nD) : Nat :=
  let c0_i32_366 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_365 : BitVec 32 := 8#32
  let v744 : BitVec 32 := Scalar.muli v2 c8_i32_365
  let v745 : BitVec 32 := Scalar.addi c0_i32_366 v744
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_367 : BitVec 32 := 4#32
  let v746 : BitVec 32 := Scalar.muli v5 c4_i32_367
  let v747 : BitVec 32 := Scalar.addi v745 v746
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v709 : BitVec 32 := Scalar.addi v8 c1_i32_331
  let c4_i32_332 : BitVec 32 := 4#32
  let c0_i32_333 : BitVec 32 := 0#32
  let v710 : BitVec 1 := Scalar.cmpi .eq c4_i32_332 c0_i32_333
  let c1_i32_334 : BitVec 32 := 1#32
  let v711 : BitVec 32 := Scalar.select v710 c1_i32_334 c4_i32_332
  let v712 : BitVec 32 := Scalar.remsi v709 v711
  let c0_i32_336 : BitVec 32 := 0#32
  let v714 : BitVec 1 := Scalar.cmpi .slt v712 c0_i32_336
  let c0_i32_337 : BitVec 32 := 0#32
  let v715 : BitVec 1 := Scalar.cmpi .slt v711 c0_i32_337
  let v716 : BitVec 1 := Scalar.xori v714 v715
  let c0_i32_335 : BitVec 32 := 0#32
  let v713 : BitVec 1 := Scalar.cmpi .ne v712 c0_i32_335
  let v717 : BitVec 1 := Scalar.andi v716 v713
  let v718 : BitVec 32 := Scalar.addi v712 v711
  let v719 : BitVec 32 := Scalar.select v717 v718 v712
  let c1_i32_368 : BitVec 32 := 1#32
  let v748 : BitVec 32 := Scalar.muli v719 c1_i32_368
  let v749 : BitVec 32 := Scalar.addi v747 v748
  v749.toNat
def k0_dev7 (d0 : Dev nD) : Nat :=
  let c0_i32_384 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_383 : BitVec 32 := 8#32
  let v767 : BitVec 32 := Scalar.muli v2 c8_i32_383
  let v768 : BitVec 32 := Scalar.addi c0_i32_384 v767
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v769 : BitVec 32 := Scalar.muli v5 c4_i32_385
  let v770 : BitVec 32 := Scalar.addi v768 v769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_371 : BitVec 32 := 2#32
  let v756 : BitVec 32 := Scalar.addi v8 c2_i32_371
  let c4_i32_372 : BitVec 32 := 4#32
  let c0_i32_373 : BitVec 32 := 0#32
  let v757 : BitVec 1 := Scalar.cmpi .eq c4_i32_372 c0_i32_373
  let c1_i32_374 : BitVec 32 := 1#32
  let v758 : BitVec 32 := Scalar.select v757 c1_i32_374 c4_i32_372
  let v759 : BitVec 32 := Scalar.remsi v756 v758
  let c0_i32_376 : BitVec 32 := 0#32
  let v761 : BitVec 1 := Scalar.cmpi .slt v759 c0_i32_376
  let c0_i32_377 : BitVec 32 := 0#32
  let v762 : BitVec 1 := Scalar.cmpi .slt v758 c0_i32_377
  let v763 : BitVec 1 := Scalar.xori v761 v762
  let c0_i32_375 : BitVec 32 := 0#32
  let v760 : BitVec 1 := Scalar.cmpi .ne v759 c0_i32_375
  let v764 : BitVec 1 := Scalar.andi v763 v760
  let v765 : BitVec 32 := Scalar.addi v759 v758
  let v766 : BitVec 32 := Scalar.select v764 v765 v759
  let c1_i32_386 : BitVec 32 := 1#32
  let v771 : BitVec 32 := Scalar.muli v766 c1_i32_386
  let v772 : BitVec 32 := Scalar.addi v770 v771
  v772.toNat
def k0_dev8 (d0 : Dev nD) : Nat :=
  let c0_i32_395 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_394 : BitVec 32 := 8#32
  let v779 : BitVec 32 := Scalar.muli v2 c8_i32_394
  let v780 : BitVec 32 := Scalar.addi c0_i32_395 v779
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v781 : BitVec 32 := Scalar.muli v5 c4_i32_396
  let v782 : BitVec 32 := Scalar.addi v780 v781
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_371 : BitVec 32 := 2#32
  let v756 : BitVec 32 := Scalar.addi v8 c2_i32_371
  let c4_i32_372 : BitVec 32 := 4#32
  let c0_i32_373 : BitVec 32 := 0#32
  let v757 : BitVec 1 := Scalar.cmpi .eq c4_i32_372 c0_i32_373
  let c1_i32_374 : BitVec 32 := 1#32
  let v758 : BitVec 32 := Scalar.select v757 c1_i32_374 c4_i32_372
  let v759 : BitVec 32 := Scalar.remsi v756 v758
  let c0_i32_376 : BitVec 32 := 0#32
  let v761 : BitVec 1 := Scalar.cmpi .slt v759 c0_i32_376
  let c0_i32_377 : BitVec 32 := 0#32
  let v762 : BitVec 1 := Scalar.cmpi .slt v758 c0_i32_377
  let v763 : BitVec 1 := Scalar.xori v761 v762
  let c0_i32_375 : BitVec 32 := 0#32
  let v760 : BitVec 1 := Scalar.cmpi .ne v759 c0_i32_375
  let v764 : BitVec 1 := Scalar.andi v763 v760
  let v765 : BitVec 32 := Scalar.addi v759 v758
  let v766 : BitVec 32 := Scalar.select v764 v765 v759
  let c1_i32_397 : BitVec 32 := 1#32
  let v783 : BitVec 32 := Scalar.muli v766 c1_i32_397
  let v784 : BitVec 32 := Scalar.addi v782 v783
  v784.toNat
def k0_dev9 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v791 : BitVec 32 := Scalar.muli v2 c8_i32_405
  let v792 : BitVec 32 := Scalar.addi c0_i32_406 v791
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_407 : BitVec 32 := 4#32
  let v793 : BitVec 32 := Scalar.muli v5 c4_i32_407
  let v794 : BitVec 32 := Scalar.addi v792 v793
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_371 : BitVec 32 := 2#32
  let v756 : BitVec 32 := Scalar.addi v8 c2_i32_371
  let c4_i32_372 : BitVec 32 := 4#32
  let c0_i32_373 : BitVec 32 := 0#32
  let v757 : BitVec 1 := Scalar.cmpi .eq c4_i32_372 c0_i32_373
  let c1_i32_374 : BitVec 32 := 1#32
  let v758 : BitVec 32 := Scalar.select v757 c1_i32_374 c4_i32_372
  let v759 : BitVec 32 := Scalar.remsi v756 v758
  let c0_i32_376 : BitVec 32 := 0#32
  let v761 : BitVec 1 := Scalar.cmpi .slt v759 c0_i32_376
  let c0_i32_377 : BitVec 32 := 0#32
  let v762 : BitVec 1 := Scalar.cmpi .slt v758 c0_i32_377
  let v763 : BitVec 1 := Scalar.xori v761 v762
  let c0_i32_375 : BitVec 32 := 0#32
  let v760 : BitVec 1 := Scalar.cmpi .ne v759 c0_i32_375
  let v764 : BitVec 1 := Scalar.andi v763 v760
  let v765 : BitVec 32 := Scalar.addi v759 v758
  let v766 : BitVec 32 := Scalar.select v764 v765 v759
  let c1_i32_408 : BitVec 32 := 1#32
  let v795 : BitVec 32 := Scalar.muli v766 c1_i32_408
  let v796 : BitVec 32 := Scalar.addi v794 v795
  v796.toNat
def k0_dev10 (d0 : Dev nD) : Nat :=
  let c0_i32_423 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_422 : BitVec 32 := 8#32
  let v814 : BitVec 32 := Scalar.muli v2 c8_i32_422
  let v815 : BitVec 32 := Scalar.addi c0_i32_423 v814
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_424 : BitVec 32 := 4#32
  let v816 : BitVec 32 := Scalar.muli v5 c4_i32_424
  let v817 : BitVec 32 := Scalar.addi v815 v816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v803 : BitVec 32 := Scalar.addi v8 c3_i32
  let c4_i32_411 : BitVec 32 := 4#32
  let c0_i32_412 : BitVec 32 := 0#32
  let v804 : BitVec 1 := Scalar.cmpi .eq c4_i32_411 c0_i32_412
  let c1_i32_413 : BitVec 32 := 1#32
  let v805 : BitVec 32 := Scalar.select v804 c1_i32_413 c4_i32_411
  let v806 : BitVec 32 := Scalar.remsi v803 v805
  let c0_i32_415 : BitVec 32 := 0#32
  let v808 : BitVec 1 := Scalar.cmpi .slt v806 c0_i32_415
  let c0_i32_416 : BitVec 32 := 0#32
  let v809 : BitVec 1 := Scalar.cmpi .slt v805 c0_i32_416
  let v810 : BitVec 1 := Scalar.xori v808 v809
  let c0_i32_414 : BitVec 32 := 0#32
  let v807 : BitVec 1 := Scalar.cmpi .ne v806 c0_i32_414
  let v811 : BitVec 1 := Scalar.andi v810 v807
  let v812 : BitVec 32 := Scalar.addi v806 v805
  let v813 : BitVec 32 := Scalar.select v811 v812 v806
  let c1_i32_425 : BitVec 32 := 1#32
  let v818 : BitVec 32 := Scalar.muli v813 c1_i32_425
  let v819 : BitVec 32 := Scalar.addi v817 v818
  v819.toNat
def k0_dev11 (d0 : Dev nD) : Nat :=
  let c0_i32_434 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_433 : BitVec 32 := 8#32
  let v826 : BitVec 32 := Scalar.muli v2 c8_i32_433
  let v827 : BitVec 32 := Scalar.addi c0_i32_434 v826
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_435 : BitVec 32 := 4#32
  let v828 : BitVec 32 := Scalar.muli v5 c4_i32_435
  let v829 : BitVec 32 := Scalar.addi v827 v828
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v803 : BitVec 32 := Scalar.addi v8 c3_i32
  let c4_i32_411 : BitVec 32 := 4#32
  let c0_i32_412 : BitVec 32 := 0#32
  let v804 : BitVec 1 := Scalar.cmpi .eq c4_i32_411 c0_i32_412
  let c1_i32_413 : BitVec 32 := 1#32
  let v805 : BitVec 32 := Scalar.select v804 c1_i32_413 c4_i32_411
  let v806 : BitVec 32 := Scalar.remsi v803 v805
  let c0_i32_415 : BitVec 32 := 0#32
  let v808 : BitVec 1 := Scalar.cmpi .slt v806 c0_i32_415
  let c0_i32_416 : BitVec 32 := 0#32
  let v809 : BitVec 1 := Scalar.cmpi .slt v805 c0_i32_416
  let v810 : BitVec 1 := Scalar.xori v808 v809
  let c0_i32_414 : BitVec 32 := 0#32
  let v807 : BitVec 1 := Scalar.cmpi .ne v806 c0_i32_414
  let v811 : BitVec 1 := Scalar.andi v810 v807
  let v812 : BitVec 32 := Scalar.addi v806 v805
  let v813 : BitVec 32 := Scalar.select v811 v812 v806
  let c1_i32_436 : BitVec 32 := 1#32
  let v830 : BitVec 32 := Scalar.muli v813 c1_i32_436
  let v831 : BitVec 32 := Scalar.addi v829 v830
  v831.toNat
def k0_dev12 (d0 : Dev nD) : Nat :=
  let c0_i32_445 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_444 : BitVec 32 := 8#32
  let v838 : BitVec 32 := Scalar.muli v2 c8_i32_444
  let v839 : BitVec 32 := Scalar.addi c0_i32_445 v838
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_446 : BitVec 32 := 4#32
  let v840 : BitVec 32 := Scalar.muli v5 c4_i32_446
  let v841 : BitVec 32 := Scalar.addi v839 v840
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v803 : BitVec 32 := Scalar.addi v8 c3_i32
  let c4_i32_411 : BitVec 32 := 4#32
  let c0_i32_412 : BitVec 32 := 0#32
  let v804 : BitVec 1 := Scalar.cmpi .eq c4_i32_411 c0_i32_412
  let c1_i32_413 : BitVec 32 := 1#32
  let v805 : BitVec 32 := Scalar.select v804 c1_i32_413 c4_i32_411
  let v806 : BitVec 32 := Scalar.remsi v803 v805
  let c0_i32_415 : BitVec 32 := 0#32
  let v808 : BitVec 1 := Scalar.cmpi .slt v806 c0_i32_415
  let c0_i32_416 : BitVec 32 := 0#32
  let v809 : BitVec 1 := Scalar.cmpi .slt v805 c0_i32_416
  let v810 : BitVec 1 := Scalar.xori v808 v809
  let c0_i32_414 : BitVec 32 := 0#32
  let v807 : BitVec 1 := Scalar.cmpi .ne v806 c0_i32_414
  let v811 : BitVec 1 := Scalar.andi v810 v807
  let v812 : BitVec 32 := Scalar.addi v806 v805
  let v813 : BitVec 32 := Scalar.select v811 v812 v806
  let c1_i32_447 : BitVec 32 := 1#32
  let v842 : BitVec 32 := Scalar.muli v813 c1_i32_447
  let v843 : BitVec 32 := Scalar.addi v841 v842
  v843.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S32x1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x32x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S32x1x16x128 : Shape := ⟨4, ![32, 1, 16, 128]⟩
abbrev S1024x32x16x128 : Shape := ⟨4, ![1024, 32, 16, 128]⟩
abbrev S32x256 : Shape := ⟨2, ![32, 256]⟩
abbrev S32x1 : Shape := ⟨2, ![32, 1]⟩
abbrev S_ : Shape := ⟨0, ![]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S32x16x1x8192 : Shape := ⟨4, ![32, 16, 1, 8192]⟩
abbrev S8192 : Shape := ⟨1, ![8192]⟩
abbrev S1x8192 : Shape := ⟨2, ![1, 8192]⟩
abbrev S32x8192 : Shape := ⟨2, ![32, 8192]⟩
abbrev S32x1x1x8192 : Shape := ⟨4, ![32, 1, 1, 8192]⟩
abbrev S32x16x1 : Shape := ⟨3, ![32, 16, 1]⟩
abbrev S32x16x1x1 : Shape := ⟨4, ![32, 16, 1, 1]⟩
abbrev S32x16x128x1 : Shape := ⟨4, ![32, 16, 128, 1]⟩

abbrev nBuf : Space → Nat
  | .hbm => 72
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S1024x32x16x128, .f32⟩
  | .hbm, ⟨2, _⟩ => ⟨S1024x32x16x128, .f32⟩
  | .hbm, ⟨3, _⟩ => ⟨S32x256, .i32⟩
  | .hbm, ⟨4, _⟩ => ⟨S32x1, .i32⟩
  | .hbm, ⟨5, _⟩ => ⟨S_, .i32⟩
  | .hbm, ⟨6, _⟩ => ⟨S32x256, .i32⟩
  | .hbm, ⟨7, _⟩ => ⟨S32x256, .i1⟩
  | .hbm, ⟨8, _⟩ => ⟨S_, .i32⟩
  | .hbm, ⟨9, _⟩ => ⟨S32x256, .i32⟩
  | .hbm, ⟨10, _⟩ => ⟨S32x256, .i32⟩
  | .hbm, ⟨11, _⟩ => ⟨S32x256, .i32⟩
  | .hbm, ⟨12, _⟩ => ⟨S32x256x1, .i32⟩
  | .hbm, ⟨13, _⟩ => ⟨S32x256x32x16x128, .f32⟩
  | .hbm, ⟨14, _⟩ => ⟨S32x8192x16x128, .f32⟩
  | .hbm, ⟨15, _⟩ => ⟨S_, .i32⟩
  | .hbm, ⟨16, _⟩ => ⟨S32x256, .i32⟩
  | .hbm, ⟨17, _⟩ => ⟨S32x256, .i1⟩
  | .hbm, ⟨18, _⟩ => ⟨S_, .i32⟩
  | .hbm, ⟨19, _⟩ => ⟨S32x256, .i32⟩
  | .hbm, ⟨20, _⟩ => ⟨S32x256, .i32⟩
  | .hbm, ⟨21, _⟩ => ⟨S32x256, .i32⟩
  | .hbm, ⟨22, _⟩ => ⟨S32x256x1, .i32⟩
  | .hbm, ⟨23, _⟩ => ⟨S32x256x32x16x128, .f32⟩
  | .hbm, ⟨24, _⟩ => ⟨S32x8192x16x128, .f32⟩
  | .hbm, ⟨25, _⟩ => ⟨S32x16x1x8192, .f32⟩
  | .hbm, ⟨26, _⟩ => ⟨S_, .f32⟩
  | .hbm, ⟨27, _⟩ => ⟨S_, .f32⟩
  | .hbm, ⟨28, _⟩ => ⟨S32x16x1x8192, .f32⟩
  | .hbm, ⟨29, _⟩ => ⟨S32x16x1x8192, .f32⟩
  | .hbm, ⟨30, _⟩ => ⟨S8192, .i32⟩
  | .hbm, ⟨31, _⟩ => ⟨S1x8192, .i32⟩
  | .hbm, ⟨32, _⟩ => ⟨S_, .i32⟩
  | .hbm, ⟨33, _⟩ => ⟨S_, .i32⟩
  | .hbm, ⟨34, _⟩ => ⟨S1x8192, .i32⟩
  | .hbm, ⟨35, _⟩ => ⟨S1x8192, .i32⟩
  | .hbm, ⟨36, _⟩ => ⟨S1x8192, .i32⟩
  | .hbm, ⟨37, _⟩ => ⟨S_, .i32⟩
  | .hbm, ⟨38, _⟩ => ⟨S1x8192, .i32⟩
  | .hbm, ⟨39, _⟩ => ⟨S1x8192, .i1⟩
  | .hbm, ⟨40, _⟩ => ⟨S1x8192, .i32⟩
  | .hbm, ⟨41, _⟩ => ⟨S1x8192, .i32⟩
  | .hbm, ⟨42, _⟩ => ⟨S_, .i32⟩
  | .hbm, ⟨43, _⟩ => ⟨S1x8192, .i32⟩
  | .hbm, ⟨44, _⟩ => ⟨S1x8192, .i1⟩
  | .hbm, ⟨45, _⟩ => ⟨S1x8192, .i1⟩
  | .hbm, ⟨46, _⟩ => ⟨S_, .i32⟩
  | .hbm, ⟨47, _⟩ => ⟨S1x8192, .i32⟩
  | .hbm, ⟨48, _⟩ => ⟨S1x8192, .i32⟩
  | .hbm, ⟨49, _⟩ => ⟨S1x8192, .i32⟩
  | .hbm, ⟨50, _⟩ => ⟨S32x8192, .i32⟩
  | .hbm, ⟨51, _⟩ => ⟨S32x8192, .i32⟩
  | .hbm, ⟨52, _⟩ => ⟨S32x8192, .i1⟩
  | .hbm, ⟨53, _⟩ => ⟨S32x1x1x8192, .i1⟩
  | .hbm, ⟨54, _⟩ => ⟨S_, .f32⟩
  | .hbm, ⟨55, _⟩ => ⟨S_, .f32⟩
  | .hbm, ⟨56, _⟩ => ⟨S32x16x1x8192, .i1⟩
  | .hbm, ⟨57, _⟩ => ⟨S32x16x1x8192, .f32⟩
  | .hbm, ⟨58, _⟩ => ⟨S32x16x1x8192, .f32⟩
  | .hbm, ⟨59, _⟩ => ⟨S_, .f32⟩
  | .hbm, ⟨60, _⟩ => ⟨S32x16x1, .f32⟩
  | .hbm, ⟨61, _⟩ => ⟨S32x16x1x1, .f32⟩
  | .hbm, ⟨62, _⟩ => ⟨S32x16x1x8192, .f32⟩
  | .hbm, ⟨63, _⟩ => ⟨S32x16x1x8192, .f32⟩
  | .hbm, ⟨64, _⟩ => ⟨S32x16x1x8192, .f32⟩
  | .hbm, ⟨65, _⟩ => ⟨S_, .f32⟩
  | .hbm, ⟨66, _⟩ => ⟨S32x16x1, .f32⟩
  | .hbm, ⟨67, _⟩ => ⟨S32x16x1x1, .f32⟩
  | .hbm, ⟨68, _⟩ => ⟨S32x16x1x8192, .f32⟩
  | .hbm, ⟨69, _⟩ => ⟨S32x16x1x8192, .f32⟩
  | .hbm, ⟨70, _⟩ => ⟨S32x16x128x1, .f32⟩
  | .hbm, ⟨71, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Proof.Head.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## One head of one step, at a head index

The kernel's text states each head by itself; these are the same terms with the head a variable, so that what is shown of
one head is shown once. Rows and windows are passed as already loaded. -/

theorem inbQ (h : Fin 16) : ∀ a, (![0, 0, h.val, 0] : Fin 4 → Nat) a + S32x1x1x128.size a ≤ S32x1x16x128.size a := by
  revert h; decide
theorem inbM (h : Fin 16) : ∀ a, (![0, h.val] : Fin 2 → Nat) a + S32x1.size a ≤ S32x16.size a := by
  revert h; decide
theorem inbA (h : Fin 16) : ∀ a, (![0, 128 * h.val] : Fin 2 → Nat) a + S32x128.size a ≤ S32x2048.size a := by
  revert h; decide
theorem slicesH (h : Fin 16) : S16x32x32x128.Slices ![h.val, 0, 0, 0] S1x32x32x128 := by
  revert h; decide

/-- Head `h` of a step's pages (already transposed): 1024 rows of 128. -/
def headRows (kT : FVec F S16x32x32x128 .f32) (h : Fin 16) : FVec F S1024x128 .f32 :=
  shapeCast S1024x128 (shapeCast S32x32x128 (extractStridedSlice S1x32x32x128 ![h.val, 0, 0, 0] kT (slicesH h)) shapeCasts_S1x32x32x128_S32x32x128) shapeCasts_S32x32x128_S1024x128

/-- The scores of the 32 queries against the step's 1024 keys. -/
def score (kT : FVec F S16x32x32x128 .f32) (qr : Vec F S32x1x1x128 .f32) (h : Fin 16) : FVec F S32x1024 .f32 :=
  matmul dot_S32x128_S1024x128_S32x1024_1_1_0_0_n_n none
    (mulf (shapeCast S32x128 qr shapeCasts_S32x1x1x128_S32x128) (broadcast S32x128 (Named.named κ "scale" 0x3DB504F3#32)))
    (headRows kT h) (constant S32x1024 .f32 0x00000000#32)

/-- The running maximum after the step. -/
def mNext (kT : FVec F S16x32x32x128 .f32) (qr : Vec F S32x1x1x128 .f32) (mc : Vec F S32x1 .f32) (h : Fin 16) : FVec F S32x1 .f32 :=
  maximumf mc (shapeCast S32x1 (multiReduction .maximumf [1] S32 (score kT qr h) 0xFF800000#32 reduces_S32x1024_S32 (.inl rfl) rfl) shapeCasts_S32_S32x1)

/-- The factor the old sums are rescaled by. -/
def alphaN (kT : FVec F S16x32x32x128 .f32) (qr : Vec F S32x1x1x128 .f32) (mc : Vec F S32x1 .f32) (h : Fin 16) : FVec F S32x1 .f32 :=
  exp (subf mc (mNext kT qr mc h))

/-- The weights of the step's keys. -/
def pN (wk : FVec F S32x1024 .f32) (kT : FVec F S16x32x32x128 .f32) (qr : Vec F S32x1x1x128 .f32) (mc : Vec F S32x1 .f32) (h : Fin 16) : FVec F S32x1024 .f32 :=
  mulf wk (exp (subf (score kT qr h) (broadcastTo S32x1024 (mNext kT qr mc h) broadcasts_S32x1_S32x1024)))

def mStored (kT : FVec F S16x32x32x128 .f32) (qr : Vec F S32x1x1x128 .f32) (mc : Vec F S32x1 .f32) (h : Fin 16) : FVec F S32x1 .f32 :=
  shapeCast S32x1 (mNext kT qr mc h) shapeCasts_S32x1_S32x1

def lStored (wk : FVec F S32x1024 .f32) (kT : FVec F S16x32x32x128 .f32) (qr : Vec F S32x1x1x128 .f32) (mc lc : Vec F S32x1 .f32) (h : Fin 16) : FVec F S32x1 .f32 :=
  shapeCast S32x1 (addf (mulf lc (alphaN kT qr mc h))
    (shapeCast S32x1 (multiReduction .add [1] S32 (pN wk kT qr mc h) 0x00000000#32 reduces_S32x1024_S32 (.inl rfl) rfl) shapeCasts_S32_S32x1)) shapeCasts_S32x1_S32x1

def aStored (wk : FVec F S32x1024 .f32) (kT vT : FVec F S16x32x32x128 .f32) (qr : Vec F S32x1x1x128 .f32) (mc : Vec F S32x1 .f32) (ac : Vec F S32x128 .f32) (h : Fin 16) : FVec F S32x128 .f32 :=
  shapeCast S32x128 (addf (mulf ac (broadcastTo S32x128 (alphaN kT qr mc h) broadcasts_S32x1_S32x128))
    (matmul dot_S32x1024_S1024x128_S32x128_1_0_0_1_n_n none (pN wk kT qr mc h) (headRows vT h) (constant S32x128 .f32 0x00000000#32))) shapeCasts_S32x128_S32x128

/-! ## One step over all the heads -/

/-- How often each of the step's keys stands in each row of the page table. -/
def wkOf (i : grid0.Coords) (c : Dev nD) (T : Vec F S32x256 .i32) : FVec F S32x1024 .f32 :=
  k0_pay49 (k0_pay46 i c T) (iota .tc S32x1024 32 [1] iota_S32x1024_d1_w32) 32#32 k0_pay47 k0_pay48
    (Scalar.extui (Scalar.cmpi .sgt 32#32 0#32)) (Scalar.extui (Scalar.cmpi .slt 32#32 0#32))

def qWin (q : Vec F S32x1x16x128 .f32) (h : Fin 16) : Vec F S32x1x1x128 .f32 := VecWindow.window q ![0, 0, h.val, 0] S32x1x1x128.size (inbQ h)
def mWin (M : Vec F S32x16 .f32) (h : Fin 16) : Vec F S32x1 .f32 := VecWindow.window M ![0, h.val] S32x1.size (inbM h)
def aWin (A : Vec F S32x2048 .f32) (h : Fin 16) : Vec F S32x128 .f32 := VecWindow.window A ![0, 128 * h.val] S32x128.size (inbA h)

/-- The head a column of the [32, 2048] accumulators belongs to, and the column inside it. -/
def headOf (n : Fin 2048) : Fin 16 := ⟨n.val / 128, by omega⟩
def laneOf (n : Fin 2048) : Fin 128 := ⟨n.val % 128, Nat.mod_lt _ (by decide)⟩

def at1 (r : Fin 32) : S32x1.Idx := fun | 0 => r | 1 => (0 : Fin 1)
def at128 (r : Fin 32) (n : Fin 128) : S32x128.Idx := fun | 0 => r | 1 => n

def newM (q : Vec F S32x1x16x128 .f32) (k : Vec F S32x32x16x128 .f32) (M : Vec F S32x16 .f32) : Vec F S32x16 .f32 :=
  fun x => mStored (k0_pay50 k) (qWin q (x 1)) (mWin M (x 1)) (x 1) (at1 (x 0))

def newL (i : grid0.Coords) (c : Dev nD) (q : Vec F S32x1x16x128 .f32) (k : Vec F S32x32x16x128 .f32) (M L : Vec F S32x16 .f32) (T : Vec F S32x256 .i32) : Vec F S32x16 .f32 :=
  fun x => lStored (wkOf i c T) (k0_pay50 k) (qWin q (x 1)) (mWin M (x 1)) (mWin L (x 1)) (x 1) (at1 (x 0))

def newA (i : grid0.Coords) (c : Dev nD) (q : Vec F S32x1x16x128 .f32) (k v : Vec F S32x32x16x128 .f32) (M : Vec F S32x16 .f32) (A : Vec F S32x2048 .f32) (T : Vec F S32x256 .i32) : Vec F S32x2048 .f32 :=
  fun x => aStored (wkOf i c T) (k0_pay50 k) (k0_pay51 v) (qWin q (headOf (x 1))) (mWin M (headOf (x 1))) (aWin A (headOf (x 1))) (headOf (x 1)) (at128 (x 0) (laneOf (x 1)))

/-! ## What the body's stores of one head hold, as a window of the step's result -/

section Pieces
variable (arg1 : Memref sig .tc .vmem S32x1x16x128 .f32) (arg2 arg3 : Memref sig .tc .vmem S32x32x16x128 .f32)
  (mB lB : Memref sig .tc .vmem S32x16 .f32) (aB : Memref sig .tc .vmem S32x2048 .f32) (tB : Memref sig .tc .vmem S32x256 .i32)

abbrev ldQ (q : Vec F S32x1x16x128 .f32) (h : Fin 16) : Vec F S32x1x1x128 .f32 :=
  arg1.view.readAt (Elt F) (Rect.unit (s := S32x1x16x128) ![0, 0, h.val, 0] S32x1x1x128.size (inbQ h)).toLoadRect (arg1.view.rep q)
abbrev ldK (k : Vec F S32x32x16x128 .f32) : Vec F S32x32x16x128 .f32 :=
  arg2.view.readAt (Elt F) (Rect.unit (s := S32x32x16x128) ![0, 0, 0, 0] S32x32x16x128.size inb_S32x32x16x128_S32x32x16x128_0_0_0_0).toLoadRect (arg2.view.rep k)
abbrev ldM (M : Vec F S32x16 .f32) (h : Fin 16) : Vec F S32x1 .f32 :=
  mB.view.readAt (Elt F) (Rect.unit (s := S32x16) ![0, h.val] S32x1.size (inbM h)).toLoadRect (mB.view.rep M)
abbrev ldA (A : Vec F S32x2048 .f32) (h : Fin 16) : Vec F S32x128 .f32 :=
  aB.view.readAt (Elt F) (Rect.unit (s := S32x2048) ![0, 128 * h.val] S32x128.size (inbA h)).toLoadRect (aB.view.rep A)
abbrev ldT (T : Vec F S32x256 .i32) : Vec F S32x256 .i32 :=
  tB.view.readAt (Elt F) (Rect.unit (s := S32x256) ![0, 0] S32x256.size inb_S32x256_S32x256_0_0).toLoadRect (tB.view.rep T)

theorem ldQ_eq (q : Vec F S32x1x16x128 .f32) (h : Fin 16) : ldQ arg1 q h = qWin q h := View.readAt_rep_unit _ q _ rfl (inbQ h)
theorem ldK_eq (k : Vec F S32x32x16x128 .f32) : ldK arg2 k = k := View.readAt_rep_full _ k _
theorem ldM_eq (M : Vec F S32x16 .f32) (h : Fin 16) : ldM mB M h = mWin M h := View.readAt_rep_unit _ M _ rfl (inbM h)
theorem ldA_eq (A : Vec F S32x2048 .f32) (h : Fin 16) : ldA aB A h = aWin A h := View.readAt_rep_unit _ A _ rfl (inbA h)
theorem ldT_eq (T : Vec F S32x256 .i32) : ldT tB T = T := View.readAt_rep_full _ T _

theorem embM (h : Fin 16) (y : S32x1.Idx) : ((Rect.unit (s := S32x16) ![0, h.val] S32x1.size (inbM h)).emb y) 0 = y 0
    ∧ ((Rect.unit (s := S32x16) ![0, h.val] S32x1.size (inbM h)).emb y) 1 = h ∧ at1 (y 0) = y := by
  have h1 : (y 1).val = 0 := Nat.lt_one_iff.1 (y 1).isLt
  refine ⟨Fin.ext ?_, Fin.ext ?_, ?_⟩
  · show 0 + 1 * (y 0).val = _; omega
  · show h.val + 1 * (y 1).val = _; omega
  · funext a; exact match a with
      | 0 => rfl
      | 1 => Fin.ext h1.symm

theorem embA (h : Fin 16) (y : S32x128.Idx) : ((Rect.unit (s := S32x2048) ![0, 128 * h.val] S32x128.size (inbA h)).emb y) 0 = y 0
    ∧ headOf (((Rect.unit (s := S32x2048) ![0, 128 * h.val] S32x128.size (inbA h)).emb y) 1) = h
    ∧ at128 (y 0) (laneOf (((Rect.unit (s := S32x2048) ![0, 128 * h.val] S32x128.size (inbA h)).emb y) 1)) = y := by
  have h1 : (y 1).val < 128 := (y 1).isLt
  have e : (((Rect.unit (s := S32x2048) ![0, 128 * h.val] S32x128.size (inbA h)).emb y) 1).val = 128 * h.val + (y 1).val := by
    show 128 * h.val + 1 * (y 1).val = _; omega
  refine ⟨Fin.ext ?_, Fin.ext ?_, ?_⟩
  · show 0 + 1 * (y 0).val = _; omega
  · show (((Rect.unit (s := S32x2048) ![0, 128 * h.val] S32x128.size (inbA h)).emb y) 1).val / 128 = _; omega
  · funext a; exact match a with
      | 0 => rfl
      | 1 => Fin.ext (by show (((Rect.unit (s := S32x2048) ![0, 128 * h.val] S32x128.size (inbA h)).emb y) 1).val % 128 = _; omega)

theorem pieceM (q : Vec F S32x1x16x128 .f32) (k : Vec F S32x32x16x128 .f32) (M : Vec F S32x16 .f32) (h : Fin 16) (y : S32x1.Idx) :
    mStored (k0_pay50 (ldK arg2 k)) (ldQ arg1 q h) (ldM mB M h) h y
      = newM q k M ((Rect.unit (s := S32x16) ![0, h.val] S32x1.size (inbM h)).emb y) := by
  obtain ⟨e0, e1, e2⟩ := embM h y
  rw [ldQ_eq, ldK_eq, ldM_eq]
  unfold newM
  rw [e0, e1, e2]

theorem pieceL (i : grid0.Coords) (c : Dev nD) (q : Vec F S32x1x16x128 .f32) (k : Vec F S32x32x16x128 .f32) (M L : Vec F S32x16 .f32) (T : Vec F S32x256 .i32) (h : Fin 16) (y : S32x1.Idx) :
    lStored (wkOf i c (ldT tB T)) (k0_pay50 (ldK arg2 k)) (ldQ arg1 q h) (ldM mB M h) (ldM lB L h) h y
      = newL i c q k M L T ((Rect.unit (s := S32x16) ![0, h.val] S32x1.size (inbM h)).emb y) := by
  obtain ⟨e0, e1, e2⟩ := embM h y
  rw [ldQ_eq, ldK_eq, ldM_eq, ldM_eq, ldT_eq]
  unfold newL
  rw [e0, e1, e2]

theorem pieceA (i : grid0.Coords) (c : Dev nD) (q : Vec F S32x1x16x128 .f32) (k v : Vec F S32x32x16x128 .f32) (M : Vec F S32x16 .f32) (A : Vec F S32x2048 .f32) (T : Vec F S32x256 .i32) (h : Fin 16) (y : S32x128.Idx) :
    aStored (wkOf i c (ldT tB T)) (k0_pay50 (ldK arg2 k)) (k0_pay51 (ldK arg3 v)) (ldQ arg1 q h) (ldM mB M h) (ldA aB A h) h y
      = newA i c q k v M A T ((Rect.unit (s := S32x2048) ![0, 128 * h.val] S32x128.size (inbA h)).emb y) := by
  obtain ⟨e0, e1, e2⟩ := embA h y
  rw [ldQ_eq, ldK_eq, ldK_eq, ldM_eq, ldA_eq, ldT_eq]
  unfold newA
  rw [e0, e1, e2]

end Pieces

end Cert.Paged
-- ==== Proof.Heads.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.Head

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The body's first part at a step that is not the first: the page counts and the sixteen heads -/

abbrev oB : Memref sig .tc .vmem S32x2048 .bf16 := Memref.whole cc0_scratch0
abbrev mB : Memref sig .tc .vmem S32x16 .f32 := Memref.whole cc0_scratch1
abbrev lB : Memref sig .tc .vmem S32x16 .f32 := Memref.whole cc0_scratch2
abbrev aB : Memref sig .tc .vmem S32x2048 .f32 := Memref.whole cc0_scratch3
abbrev tB : Memref sig .tc .vmem S32x256 .i32 := Memref.whole cc0_scratch4

theorem piecesOf_map {s : Shape} {e : EltTy} {ι : Type} (G : s.Idx → Elt F e) (p : ι → View.Piece (Elt F) s e)
    (h : ∀ j x, (p j).2 x = G ((p j).1.emb x)) : ∀ l : List ι, View.PiecesOf G (l.map p)
  | [] => trivial
  | j :: l => ⟨h j, piecesOf_map G p h l⟩

/-- The heads in the order the body's stores are listed, newest first. -/
abbrev down : List (Fin 16) := [15, 14, 13, 12, 11, 10, 9, 8, 7, 6, 5, 4, 3, 2, 1, 0]

/-- The mesh coordinates the body computes and hands to its later parts. -/
abbrev cx (c : Dev nD) : BitVec 32 := Scalar.remsi (Scalar.divsi (Dev.word c) 8#32) 2#32
abbrev cy (c : Dev nD) : BitVec 32 := Scalar.remsi (Scalar.divsi (Dev.word c) 4#32) 2#32
abbrev cz (c : Dev nD) : BitVec 32 := Scalar.remsi (Scalar.divsi (Dev.word c) 1#32) 4#32

/-- A whole buffer after writes that are pieces of one function and tile it is held at that function. -/
theorem writes_to_rep {sp : Space} {s : Shape} {e : EltTy} (m : Memref sig .tc sp s e) (hw : m.view.set = Finset.univ) (c : Dev nD)
    (f : Buf (Elt F) (m.view.loc (c : Thread nD τ))) (G : s.Idx → Elt F e)
    (L : List (View.Piece (Elt F) s e)) (hG : View.PiecesOf G L)
    (size : Fin s.rank → ℕ) (hc : View.Piece.tiledL L size = true) :
    (m.view.loc (c : Thread nD τ) ↦{fullShare} m.view.writes (Elt F) f L : sProp 𝕄) ⊢ m.view.loc (c : Thread nD τ) ↦{fullShare} m.view.rep G := by
  have h := pointsTo_rep_of_read (Ix := Unit) (Name := ℕ) (U := UU) (Lvl := ℕ) (c : Thread nD τ) m (m.view.writes (Elt F) f L) fullShare G
    (funext fun y => View.read_writes_apply_of_pieces _ f G L hG.mem y (View.cover_of_tiledL L size hc y))
  rw [hw] at h
  exact h

/-- The stores of the sixteen heads, as the body's run lists them. -/
abbrev storesM (arg1 : Memref sig .tc .vmem S32x1x16x128 .f32) (arg2 : Memref sig .tc .vmem S32x32x16x128 .f32)
    (q : Vec F S32x1x16x128 .f32) (k : Vec F S32x32x16x128 .f32) (M : Vec F S32x16 .f32) : List (View.Piece (Elt F) S32x16 .f32) :=
  down.map fun h => ⟨Rect.unit (s := S32x16) ![0, h.val] S32x1.size (inbM h),
    mStored (k0_pay50 (ldK arg2 k)) (ldQ arg1 q h) (ldM mB M h) h⟩
abbrev storesL (arg1 : Memref sig .tc .vmem S32x1x16x128 .f32) (arg2 : Memref sig .tc .vmem S32x32x16x128 .f32)
    (i : grid0.Coords) (c : Dev nD) (q : Vec F S32x1x16x128 .f32) (k : Vec F S32x32x16x128 .f32) (M L : Vec F S32x16 .f32) (T : Vec F S32x256 .i32) :
    List (View.Piece (Elt F) S32x16 .f32) :=
  down.map fun h => ⟨Rect.unit (s := S32x16) ![0, h.val] S32x1.size (inbM h),
    lStored (wkOf i c (ldT tB T)) (k0_pay50 (ldK arg2 k)) (ldQ arg1 q h) (ldM mB M h) (ldM lB L h) h⟩
abbrev storesA (arg1 : Memref sig .tc .vmem S32x1x16x128 .f32) (arg2 arg3 : Memref sig .tc .vmem S32x32x16x128 .f32)
    (i : grid0.Coords) (c : Dev nD) (q : Vec F S32x1x16x128 .f32) (k v : Vec F S32x32x16x128 .f32) (M : Vec F S32x16 .f32) (A : Vec F S32x2048 .f32) (T : Vec F S32x256 .i32) :
    List (View.Piece (Elt F) S32x2048 .f32) :=
  down.map fun h => ⟨Rect.unit (s := S32x2048) ![0, 128 * h.val] S32x128.size (inbA h),
    aStored (wkOf i c (ldT tB T)) (k0_pay50 (ldK arg2 k)) (k0_pay51 (ldK arg3 v)) (ldQ arg1 q h) (ldM mB M h) (ldA aB A h) h⟩

section Args
variable (c : Dev nD) (i : grid0.Coords)
    (arg1 : Memref sig .tc .vmem S32x1x16x128 .f32) (harg1 : arg1.IsWhole) (arg2 : Memref sig .tc .vmem S32x32x16x128 .f32) (harg2 : arg2.IsWhole) (arg3 : Memref sig .tc .vmem S32x32x16x128 .f32) (harg3 : arg3.IsWhole) (arg4 : Memref sig .tc .vmem S32x256 .i32) (harg4 : arg4.IsWhole) (arg5 : Memref sig .tc .vmem S32x1 .i32) (harg5 : arg5.IsWhole) (arg6 : Memref sig .tc .vmem S32x1x16x128 .f32) (harg6 : arg6.IsWhole)
    (q : Vec F S32x1x16x128 .f32) (k v : Vec F S32x32x16x128 .f32)
    (M L : Vec F S32x16 .f32) (A : Vec F S32x2048 .f32) (T : Vec F S32x256 .i32)

set_option maxRecDepth 16384 in
set_option sl_exec.resultNames true in
set_option maxHeartbeats 0 in
theorem part45_rest (hc1 : ¬ k0_cond1 i = 1#1) :
    (iprop((arg1.view.loc (c : Thread nD τ) ↦[arg1.view.set]{fullShare} arg1.view.rep q)
      ∗ (arg2.view.loc (c : Thread nD τ) ↦[arg2.view.set]{fullShare} arg2.view.rep k)
      ∗ (arg3.view.loc (c : Thread nD τ) ↦[arg3.view.set]{fullShare} arg3.view.rep v)
      ∗ (mB.view.loc (c : Thread nD τ) ↦{fullShare} mB.view.rep M)
      ∗ (lB.view.loc (c : Thread nD τ) ↦{fullShare} lB.view.rep L)
      ∗ (aB.view.loc (c : Thread nD τ) ↦{fullShare} aB.view.rep A)
      ∗ (tB.view.loc (c : Thread nD τ) ↦{fullShare} tB.view.rep T)) : sProp 𝕄)
    ⊢ wp frame (wpE (defs₀ (F := F)) 𝒱₀ (c : Thread nD τ) none) Set.univ
        (k0_part45 i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)
        (fun r => iprop(⌜r = ⟨c, cx c, cy c, cz c⟩⌝
          ∗ (arg1.view.loc (c : Thread nD τ) ↦[arg1.view.set]{fullShare} arg1.view.rep q)
          ∗ (arg2.view.loc (c : Thread nD τ) ↦[arg2.view.set]{fullShare} arg2.view.rep k)
          ∗ (arg3.view.loc (c : Thread nD τ) ↦[arg3.view.set]{fullShare} arg3.view.rep v)
          ∗ (mB.view.loc (c : Thread nD τ) ↦{fullShare} mB.view.rep (newM q k M))
          ∗ (lB.view.loc (c : Thread nD τ) ↦{fullShare} lB.view.rep (newL i c q k M L T))
          ∗ (aB.view.loc (c : Thread nD τ) ↦{fullShare} aB.view.rep (newA i c q k v M A T))
          ∗ (tB.view.loc (c : Thread nD τ) ↦{fullShare} tB.view.rep T) : sProp 𝕄)) := by
  istart
  iintro ⟨Hq, Hk, Hv, Hm, Hl, Ha, Ht⟩
  sl_exec_parts
  sl_step
  isplitr
  · ipureintro; rfl
  isplitl [Hq]; · iexact Hq
  isplitl [Hk]; · iexact Hk
  isplitl [Hv]; · iexact Hv
  isplitl [Hm]
  · exact writes_to_rep mB (View.set_whole _) c (mB.view.rep M) (newM q k M) (storesM arg1 arg2 q k M)
      (piecesOf_map _ _ (pieceM arg1 arg2 mB q k M) down) S32x1.size (by sl_kernel_rfl)
  isplitl [Hl]
  · exact writes_to_rep lB (View.set_whole _) c (lB.view.rep L) (newL i c q k M L T) (storesL arg1 arg2 i c q k M L T)
      (piecesOf_map _ _ (pieceL arg1 arg2 mB lB tB i c q k M L T) down) S32x1.size (by sl_kernel_rfl)
  isplitl [Ha]
  · exact writes_to_rep aB (View.set_whole _) c (aB.view.rep A) (newA i c q k v M A T) (storesA arg1 arg2 arg3 i c q k v M A T)
      (piecesOf_map _ _ (pieceA arg1 arg2 arg3 mB aB tB i c q k v M A T) down) S32x128.size (by sl_kernel_rfl)
  iexact Ht

end Args
end Cert.Paged
-- ==== Proof.Protocol.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.Heads
public import Idealize.ShloMosaic.Lib.Ring.Trips

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F] [Named F]

local notation "𝕄" => MT nD τ sig Unit (Elt F) ℕ UU ℕ

/-! # The exchange of the partial results: cells, landing slots, payloads

The four devices of one `z` line hold one quarter of the pages each. Device `c`'s peer number `d` is `pe c d`, the
device `d + 1` places further along the line (cyclically), and `po c d` is the device whose peer number `d` is `c`.
At the first grid point every device tells its three peers that its landing buffers are free (one unit on each peer's
barrier cell); at the last one it copies its accumulator, its row maxima and its row sums into slot `d` of peer `d`'s
landing buffers, each copy on a departure cell of its own and an arrival cell of the peer. -/

/-- Peer number `d` of device `c`: `d + 1` places further along the `z` line. -/
def pe (c : Dev nD) (d : Fin 3) : Dev nD := ⟨c.val / 4 * 4 + (c.val % 4 + d.val + 1) % 4, by have := c.isLt; have : nD = 16 := rfl; omega⟩
/-- The device whose peer number `d` is `c`. -/
def po (c : Dev nD) (d : Fin 3) : Dev nD := pe c (Fin.rev d)

theorem pe_pe (c : Dev nD) (d : Fin 3) : pe (pe c d) (Fin.rev d) = c := by revert c d; decide
theorem pe_po (c : Dev nD) (d : Fin 3) : pe (po c d) d = c := by revert c d; decide
theorem po_pe (c : Dev nD) (d : Fin 3) : po (pe c d) d = c := pe_pe c d

theorem pe_02 (c : Dev nD) : pe (pe c 0) 2 = c := pe_pe c 0
theorem pe_11 (c : Dev nD) : pe (pe c 1) 1 = c := pe_pe c 1
theorem pe_20 (c : Dev nD) : pe (pe c 2) 0 = c := pe_pe c 2

theorem devs : ∀ c : Dev nD, k0_dev1 c = (pe c 0).val ∧ k0_dev2 c = (pe c 1).val ∧ k0_dev3 c = (pe c 2).val ∧ k0_dev4 c = (pe c 0).val ∧ k0_dev5 c = (pe c 0).val ∧ k0_dev6 c = (pe c 0).val ∧ k0_dev7 c = (pe c 1).val ∧ k0_dev8 c = (pe c 1).val ∧ k0_dev9 c = (pe c 1).val ∧ k0_dev10 c = (pe c 2).val ∧ k0_dev11 c = (pe c 2).val ∧ k0_dev12 c = (pe c 2).val := by decide +kernel

/-! ## Cells -/

/-- The barrier semaphore. -/
abbrev barS : Sem sig := (SemArray.scalar (sig.barrier 0 rfl) : Sems sig S_).sem

/-- The departure semaphore of the copy of buffer `a` to peer `d`, and the arrival semaphore of the copy into slot `d` of buffer `a`. -/
abbrev sendS (d a : Fin 3) : DmaSem sig := ⟨8 + 3 * d.val + a.val, show _ < 26 by omega⟩
abbrev recvS (d a : Fin 3) : DmaSem sig := ⟨17 + 3 * d.val + a.val, show _ < 26 by omega⟩

theorem sendS_val : ∀ d a : Fin 3, (sendS d a).val = 8 + 3 * d.val + a.val := fun _ _ => rfl
theorem recvS_val : ∀ d a : Fin 3, (recvS d a).val = 17 + 3 * d.val + a.val := fun _ _ => rfl

abbrev barCell (c : Dev nD) : GSem nD τ sig := ((c : Thread nD τ), .reg barS)
abbrev sendCell (c : Dev nD) (d a : Fin 3) : GSem nD τ sig := ((c : Thread nD τ), .dma (sendS d a))
abbrev recvCell (c : Dev nD) (d a : Fin 3) : GSem nD τ sig := ((c : Thread nD τ), .dma (recvS d a))

/-! ## Landing slots -/

abbrev obB : Memref sig .tc .vmem S3x32x2048 .bf16 := Memref.whole cc0_scratch5
abbrev mbB : Memref sig .tc .vmem S3x32x16 .f32 := Memref.whole cc0_scratch6
abbrev lbB : Memref sig .tc .vmem S3x32x16 .f32 := Memref.whole cc0_scratch7

theorem inbSlO : ∀ (d : Fin 3) (x : Fin 3), (![d.val, 0, 0] : Fin 3 → Nat) x + S1x32x2048.size x ≤ S3x32x2048.size x := by decide
theorem inbSlM : ∀ (d : Fin 3) (x : Fin 3), (![d.val, 0, 0] : Fin 3 → Nat) x + S1x32x16.size x ≤ S3x32x16.size x := by decide

abbrev slotO (d : Fin 3) : Memref sig .tc .vmem S32x2048 .bf16 :=
  (obB.slice (Rect.unit (s := S3x32x2048) ![d.val, 0, 0] S1x32x2048.size (inbSlO d)) (fun _ => rfl)).squeeze S32x2048 squeezes_S1x32x2048_S32x2048
abbrev slotM (d : Fin 3) : Memref sig .tc .vmem S32x16 .f32 :=
  (mbB.slice (Rect.unit (s := S3x32x16) ![d.val, 0, 0] S1x32x16.size (inbSlM d)) (fun _ => rfl)).squeeze S32x16 squeezes_S1x32x16_S32x16
abbrev slotL (d : Fin 3) : Memref sig .tc .vmem S32x16 .f32 :=
  (lbB.slice (Rect.unit (s := S3x32x16) ![d.val, 0, 0] S1x32x16.size (inbSlM d)) (fun _ => rfl)).squeeze S32x16 squeezes_S1x32x16_S32x16

/-- The credit of one copy of buffer `a`. -/
abbrev NO : ℕ := (slotO 0).view.dmaCredit
abbrev NM : ℕ := (slotM 0).view.dmaCredit
abbrev NL : ℕ := (slotL 0).view.dmaCredit
def amt (a : Fin 3) : ℕ := if a = 0 then NO else if a = 1 then NM else NL

theorem amt_pos (a : Fin 3) : 0 < amt a := by
  unfold amt; split
  · exact View.dmaCredit_pos _ (by decide)
  · split
    · exact View.dmaCredit_pos _ (by decide)
    · exact View.dmaCredit_pos _ (by decide)

/-! ## What each device sends: parameters of the schedule -/

/-- The three buffers every device sends. -/
structure Sent (F : FTy → Type) where
  o : Dev nD → Vec F S32x2048 .bf16
  m : Dev nD → Vec F S32x16 .f32
  l : Dev nD → Vec F S32x16 .f32

variable (B : Sent F)

/-- Peer `pe c d`'s slots `d`, over some contents: what that peer's unit on `c`'s barrier cell hands over. -/
def barPay (c : Dev nD) (j : Fin 3) : sProp 𝕄 :=
  iprop((∃ f, (slotO (Fin.rev j)).view.loc (pe c (Fin.rev j) : Thread nD τ) ↦[(slotO (Fin.rev j)).view.set]{fullShare} f)
    ∗ (∃ f, (slotM (Fin.rev j)).view.loc (pe c (Fin.rev j) : Thread nD τ) ↦[(slotM (Fin.rev j)).view.set]{fullShare} f)
    ∗ (∃ f, (slotL (Fin.rev j)).view.loc (pe c (Fin.rev j) : Thread nD τ) ↦[(slotL (Fin.rev j)).view.set]{fullShare} f))

/-- The lent part of the source comes back. -/
def sendPay (c : Dev nD) (d a : Fin 3) : sProp 𝕄 :=
  if a = 0 then iprop(oB.view.loc (c : Thread nD τ) ↦[oB.view.set]{shares3 fullShare d} oB.view.rep (B.o c))
  else if a = 1 then iprop(mB.view.loc (c : Thread nD τ) ↦[mB.view.set]{shares3 fullShare d} mB.view.rep (B.m c))
  else iprop(lB.view.loc (c : Thread nD τ) ↦[lB.view.set]{shares3 fullShare d} lB.view.rep (B.l c))

/-- Slot `d`, written with what device `po c d` sent. -/
def recvPay (c : Dev nD) (d a : Fin 3) : sProp 𝕄 :=
  if a = 0 then iprop(∃ f, (slotO d).view.loc (c : Thread nD τ) ↦[(slotO d).view.set]{fullShare}
    (slotO d).view.write (Elt F) f (oB.view.read (Elt F) (oB.view.rep (B.o (po c d)))) Finset.univ)
  else if a = 1 then iprop(∃ f, (slotM d).view.loc (c : Thread nD τ) ↦[(slotM d).view.set]{fullShare}
    (slotM d).view.write (Elt F) f (mB.view.read (Elt F) (mB.view.rep (B.m (po c d)))) Finset.univ)
  else iprop(∃ f, (slotL d).view.loc (c : Thread nD τ) ↦[(slotL d).view.set]{fullShare}
    (slotL d).view.write (Elt F) f (lB.view.read (Elt F) (lB.view.rep (B.l (po c d)))) Finset.univ)

abbrev third (n : ℕ) : Fin 3 := ⟨n % 3, Nat.mod_lt _ (by decide)⟩

/-- One round, round 0: a barrier cell has three duties of one unit each (duty `j` from the device whose peer number `j`
    it is); a departure or arrival cell has the duty `0` of the copy's credit. -/
def Rd : Rounds.Schedule (GSem nD τ sig) (Fin 3) 𝕄 where
  duties g r := if r = 0 ∧ g.1.2 = .tc then (match g.2 with
    | .reg s => if s = barS then Finset.univ else ∅
    | .dma q => if q.val < 8 then ∅ else {0}) else ∅
  unitless _ := False
  amount g _ _ := match g.2 with
    | .reg _ => 1
    | .dma q => if q.val < 17 then amt (third (q.val - 8)) else amt (third (q.val - 17))
  payload g _ j := match g.2 with
    | .reg _ => barPay g.1.1 j
    | .dma q => if q.val < 8 then iprop(emp) else if q.val < 17 then sendPay B g.1.1 (third ((q.val - 8) / 3)) (third (q.val - 8))
        else recvPay B g.1.1 (third ((q.val - 17) / 3)) (third (q.val - 17))
  amount_pos g _ _ _ := by
    split
    · exact Nat.one_pos
    · split <;> exact amt_pos _

set_option synthInstance.maxHeartbeats 200000 in
instance barPay_storable (c : Dev nD) (j : Fin 3) : BI.Storable (upEmb : UEmb _ 𝕄) (barPay (F := F) c j) := by
  unfold barPay; infer_instance
instance sendPay_storable (c : Dev nD) (d a : Fin 3) : BI.Storable (upEmb : UEmb _ 𝕄) (sendPay B c d a) := by
  unfold sendPay; split
  · infer_instance
  · split <;> infer_instance
instance recvPay_storable (c : Dev nD) (d a : Fin 3) : BI.Storable (upEmb : UEmb _ 𝕄) (recvPay B c d a) := by
  unfold recvPay; split
  · infer_instance
  · split <;> infer_instance

instance Rd_payload_storable (g : GSem nD τ sig) (r : ℕ) (j : Fin 3) :
    BI.Storable (upEmb : UEmb _ 𝕄) ((Rd B).payload g r j) := by
  dsimp only [Rd]
  split
  · infer_instance
  · split
    · infer_instance
    · split <;> infer_instance

section Tables
variable (c : Dev nD)

theorem duties_bar : (Rd B).duties (barCell c) 0 = Finset.univ := by
  dsimp only [Rd]; rw [if_pos ⟨rfl, rfl⟩, if_pos rfl]
theorem duties_send (d a : Fin 3) : (Rd B).duties (sendCell c d a) 0 = {0} := by
  dsimp only [Rd]; rw [if_pos ⟨rfl, rfl⟩, if_neg (by omega)]
theorem duties_recv (d a : Fin 3) : (Rd B).duties (recvCell c d a) 0 = {0} := by
  dsimp only [Rd]; rw [if_pos ⟨rfl, rfl⟩, if_neg (by omega)]
theorem duties_later (g : GSem nD τ sig) : ∀ r, 1 ≤ r → (Rd B).duties g r = ∅ :=
  fun r hr => by dsimp only [Rd]; rw [if_neg fun h => by omega]

theorem amount_bar (j : Fin 3) : (Rd B).amount (barCell c) 0 j = 1 := rfl
theorem third_send : ∀ d a : Fin 3, third ((sendS d a).val - 8) = a ∧ third (((sendS d a).val - 8) / 3) = d ∧ ¬ (sendS d a).val < 8 ∧ (sendS d a).val < 17 := by decide +kernel
theorem third_recv : ∀ d a : Fin 3, third ((recvS d a).val - 17) = a ∧ third (((recvS d a).val - 17) / 3) = d ∧ ¬ (recvS d a).val < 8 ∧ ¬ (recvS d a).val < 17 := by decide +kernel
theorem amount_send (d a j : Fin 3) : (Rd B).amount (sendCell c d a) 0 j = amt a := by
  obtain ⟨h1, h2, h3, h4⟩ := third_send d a
  dsimp only [Rd]; rw [if_pos h4, h1]
theorem amount_recv (d a j : Fin 3) : (Rd B).amount (recvCell c d a) 0 j = amt a := by
  obtain ⟨h1, h2, h3, h4⟩ := third_recv d a
  dsimp only [Rd]; rw [if_neg h4, h1]

theorem payload_bar (j : Fin 3) : (Rd B).payload (barCell c) 0 j = barPay c j := rfl
theorem payload_send (d a j : Fin 3) : (Rd B).payload (sendCell c d a) 0 j = sendPay B c d a := by
  obtain ⟨h1, h2, h3, h4⟩ := third_send d a
  dsimp only [Rd]; rw [if_neg h3, if_pos h4, h1, h2]
theorem payload_recv (d a j : Fin 3) : (Rd B).payload (recvCell c d a) 0 j = recvPay B c d a := by
  obtain ⟨h1, h2, h3, h4⟩ := third_recv d a
  dsimp only [Rd]; rw [if_neg h3, if_neg h4, h1, h2]

theorem expect_bar : (Rd B).expect (barCell c) 0 = 3 := by
  unfold Schedule.expect Schedule.amountOf
  rw [duties_bar, Finset.sum_congr rfl fun j _ => amount_bar B c j]; rfl
theorem expect_send (d a : Fin 3) : (Rd B).expect (sendCell c d a) 0 = amt a := by
  unfold Schedule.expect Schedule.amountOf; rw [duties_send, Finset.sum_singleton, amount_send]
theorem expect_recv (d a : Fin 3) : (Rd B).expect (recvCell c d a) 0 = amt a := by
  unfold Schedule.expect Schedule.amountOf; rw [duties_recv, Finset.sum_singleton, amount_recv]

end Tables

/-! ## What each device owes at launch; the levels -/

/-- The nine arrivals device `c` owes its peers. -/
def Oarr (c : Dev nD) : CellTallies nD τ sig Unit :=
  tallyAt (recvCell (pe c 0) 0 0) () NO + tallyAt (recvCell (pe c 0) 0 1) () NM + tallyAt (recvCell (pe c 0) 0 2) () NL
    + tallyAt (recvCell (pe c 1) 1 0) () NO + tallyAt (recvCell (pe c 1) 1 1) () NM + tallyAt (recvCell (pe c 1) 1 2) () NL
    + tallyAt (recvCell (pe c 2) 2 0) () NO + tallyAt (recvCell (pe c 2) 2 1) () NM + tallyAt (recvCell (pe c 2) 2 2) () NL
/-- The three barrier units it owes them, and the arrivals. -/
def O₀ (c : Dev nD) : CellTallies nD τ sig Unit :=
  Oarr c + tallyAt (barCell (pe c 0)) () 1 + tallyAt (barCell (pe c 1)) () 1 + tallyAt (barCell (pe c 2)) () 1

def L (g : GSem nD τ sig) : Finset Unit := if g.1.2 = .tc then {()} else ∅
/-- Barrier cells at 1, arrival cells at 2, everything else at 0. -/
def lv (g : GSem nD τ sig) (_ : Unit) : ℕ := match g.2 with
  | .reg _ => 1
  | .dma q => if q.val < 17 then 0 else 2

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem add_pos {O O' : CellTallies nD τ sig Unit} {P : Prop} {g : GSem nD τ sig} {u : Unit} (hO : 0 < O g u → P) (hO' : 0 < O' g u → P)
    (h : 0 < (O + O') g u) : P := by
  rw [Pi.add_apply, Finsupp.add_apply] at h
  rcases Nat.eq_zero_or_pos (O g u) with h0 | h0
  · exact hO' (by omega)
  · exact hO h0

theorem Oarr_pos {c : Dev nD} {g : GSem nD τ sig} {u : Unit} (h : 0 < Oarr c g u) : ∃ d a, g = recvCell (pe c d) d a := by
  revert h; unfold Oarr
  refine add_pos (add_pos (add_pos (add_pos (add_pos (add_pos (add_pos (add_pos ?_ ?_) ?_) ?_) ?_) ?_) ?_) ?_) ?_ <;>
    exact fun h => ⟨_, _, tally_pos h⟩
theorem O₀_pos {c : Dev nD} {g : GSem nD τ sig} {u : Unit} (h : 0 < O₀ c g u) : (∃ d a, g = recvCell (pe c d) d a) ∨ ∃ d, g = barCell (pe c d) := by
  revert h; unfold O₀
  refine add_pos (add_pos (add_pos (fun h => .inl (Oarr_pos h)) ?_) ?_) ?_ <;> exact fun h => .inr ⟨_, tally_pos h⟩

theorem lv_recv (c : Dev nD) (d a : Fin 3) : lv (recvCell c d a) () = 2 := by
  dsimp only [lv]; rw [if_neg (by omega)]

/-- A staging or departure cell is waited on below everything a device ever owes. -/
theorem mayWait_low (c : Dev nD) (q : DmaSem sig) (hq : q.val < 17) (O : CellTallies nD τ sig Unit) (hO : O = O₀ c ∨ O = Oarr c ∨ O = 0) :
    (levAts L lv : sProp 𝕄) ⊢ MayWait (c : Thread nD τ) (.dma q) () O := by
  have key : ∀ O : CellTallies nD τ sig Unit, (∀ g u, 0 < O g u → (∃ d a, g = recvCell (pe c d) d a) ∨ ∃ d, g = barCell (pe c d)) →
      ((levAts L lv : sProp 𝕄) ⊢ MayWait (c : Thread nD τ) (.dma q) () O) := fun O h =>
    MayOwe.of_cut (L := L) (lev := lv) 0 (fun p hp => by rw [Finset.mem_singleton.mp hp, L_tc]; exact Finset.mem_singleton_self _)
      (fun g u hg => by rcases h g u hg with ⟨d, a, rfl⟩ | ⟨d, rfl⟩ <;> exact Finset.mem_singleton_self _)
      (fun p hp => by rw [Finset.mem_singleton.mp hp]; dsimp only [lv]; rw [if_pos hq])
      (fun g u hg => by
        rcases h g u hg with ⟨d, a, rfl⟩ | ⟨d, rfl⟩
        · rw [lv_recv]; decide
        · dsimp only [lv]; decide)
  rcases hO with rfl | rfl | rfl
  · exact key _ fun g u hg => O₀_pos hg
  · exact key _ fun g u hg => .inl (Oarr_pos hg)
  · rw [MayWait_zero]; iintro -; iempintro

/-- At its barrier wait a device owes arrivals only: those cells lie above its barrier cell. -/
theorem mayWait_bar (c : Dev nD) : (levAts L lv : sProp 𝕄) ⊢ MayWait (c : Thread nD τ) (.reg barS) () (Oarr c) :=
  MayOwe.of_cut (L := L) (lev := lv) 1 (fun p hp => by rw [Finset.mem_singleton.mp hp, L_tc]; exact Finset.mem_singleton_self _)
    (fun g u hg => by obtain ⟨d, a, rfl⟩ := Oarr_pos hg; exact Finset.mem_singleton_self _)
    (fun p hp => by rw [Finset.mem_singleton.mp hp]; dsimp only [lv]; exact le_rfl)
    (fun g u hg => by obtain ⟨d, a, rfl⟩ := Oarr_pos hg; rw [lv_recv]; decide)

end Cert.Paged
-- ==== Proof.First.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.Protocol
public import Idealize.ShloMosaic.Lib.Ring.Trips

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F] [Named F]

local notation "𝕄" => MT nD τ sig Unit (Elt F) ℕ UU ℕ

/-! # The first grid point: the barrier and the initial values -/

/-- A whole buffer after one store over all of it is held at what was stored. -/
theorem store_to_rep {sp : Space} {s : Shape} {e : EltTy} (m : Memref sig .tc sp s e) (hw : m.view.set = Finset.univ) (c : Dev nD)
    (f : Buf (Elt F) (m.view.loc (c : Thread nD τ))) {off : Fin s.rank → ℕ} (inb : ∀ a, off a + s.size a ≤ s.size a) (w : s.Idx → Elt F e) :
    (m.view.loc (c : Thread nD τ) ↦{fullShare} m.view.writes (Elt F) f [⟨Rect.unit (s := s) off s.size inb, w⟩] : sProp 𝕄)
      ⊢ m.view.loc (c : Thread nD τ) ↦{fullShare} m.view.rep w := by
  have h := pointsTo_rep_of_read (Ix := Unit) (Name := ℕ) (U := UU) (Lvl := ℕ) (c : Thread nD τ) m
    (m.view.writes (Elt F) f [⟨Rect.unit (s := s) off s.size inb, w⟩]) fullShare w (View.read_writes_full _ f inb w [])
  rw [hw] at h
  exact h

section Args
variable (c : Dev nD) (i : grid0.Coords)
    (arg1 : Memref sig .tc .vmem S32x1x16x128 .f32) (harg1 : arg1.IsWhole) (arg2 : Memref sig .tc .vmem S32x32x16x128 .f32) (harg2 : arg2.IsWhole) (arg3 : Memref sig .tc .vmem S32x32x16x128 .f32) (harg3 : arg3.IsWhole) (arg4 : Memref sig .tc .vmem S32x256 .i32) (harg4 : arg4.IsWhole) (arg5 : Memref sig .tc .vmem S32x1 .i32) (harg5 : arg5.IsWhole) (arg6 : Memref sig .tc .vmem S32x1x16x128 .f32) (harg6 : arg6.IsWhole)
    (bt : Vec F S32x256 .i32) (ln : Vec F S32x1 .i32)
    (q : Vec F S32x1x16x128 .f32) (k v : Vec F S32x32x16x128 .f32)
    (M L : Vec F S32x16 .f32) (A : Vec F S32x2048 .f32) (T : Vec F S32x256 .i32)

variable (B : Sent F) (K : Dev nD × Fin 19 → ℕ) (W : Waits sig Unit)

/-- The page table with the entries past a sequence's length out of the way. -/
abbrev initT (bt : Vec F S32x256 .i32) (ln : Vec F S32x1 .i32) : Vec F S32x256 .i32 :=
  k0_pay45 (iota .tc S32x256 32 [1] iota_S32x256_d1_w32) ln bt

/-- The slots `d` of device `c`, over some contents. -/
def slotsAny (c : Dev nD) (d : Fin 3) : sProp 𝕄 :=
  iprop((∃ f, (slotO d).view.loc (c : Thread nD τ) ↦[(slotO d).view.set]{fullShare} f)
    ∗ (∃ f, (slotM d).view.loc (c : Thread nD τ) ↦[(slotM d).view.set]{fullShare} f)
    ∗ (∃ f, (slotL d).view.loc (c : Thread nD τ) ↦[(slotL d).view.set]{fullShare} f))

theorem barPay_eq (c : Dev nD) (j : Fin 3) : barPay (F := F) (pe c j) j = slotsAny c (Fin.rev j) := by
  unfold barPay slotsAny; rw [pe_pe]
theorem barPay_0 (c : Dev nD) : barPay (F := F) (pe c 0) 0 = slotsAny c 2 := barPay_eq c 0
theorem barPay_1 (c : Dev nD) : barPay (F := F) (pe c 1) 1 = slotsAny c 1 := barPay_eq c 1
theorem barPay_2 (c : Dev nD) : barPay (F := F) (pe c 2) 2 = slotsAny c 0 := barPay_eq c 2

/-- What a device needs to pay its peers' barrier units and wait for its own three. -/
def barKit (c : Dev nD) : sProp 𝕄 :=
  iprop(cellInv ER (Rd B) (K (c, 0)) (barCell c)
      ∗ cellInv ER (Rd B) (K (pe c 0, 0)) (barCell (pe c 0)) ∗ cellInv ER (Rd B) (K (pe c 1, 0)) (barCell (pe c 1)) ∗ cellInv ER (Rd B) (K (pe c 2, 0)) (barCell (pe c 2))
      ∗ reached ER (barCell (pe c 0)) 0 ∗ reached ER (barCell (pe c 1)) 0 ∗ reached ER (barCell (pe c 2)) 0
      ∗ dutyTok ER (barCell (pe c 0)) 0 0 ∗ dutyTok ER (barCell (pe c 1)) 0 1 ∗ dutyTok ER (barCell (pe c 2)) 0 2
      ∗ atPos ER (barCell c) 0 ∅ 0 ∗ cred (tallyAt (barCell c) () 3) ∗ levAts Cert.Paged.L lv
      ∗ slotsAny c 0 ∗ slotsAny c 1 ∗ slotsAny c 2)

/-- What the barrier leaves: its cell's position, and the three peers' slots. -/
@[irreducible] def barDone (c : Dev nD) : sProp 𝕄 :=
  iprop(atPos ER (barCell c) 1 ∅ 0 ∗ bigSep Finset.univ (fun j => barPay (F := F) c j))

attribute [local sl_rounds] duties_bar amount_bar payload_bar expect_bar barPay_0 barPay_1 barPay_2

set_option maxRecDepth 16384 in
set_option sl_exec.resultNames true in
set_option maxHeartbeats 0 in
theorem part27_first (hc1 : k0_cond1 i = 1#1) (fm : Vec F S32x16 .f32) (fl : Vec F S32x16 .f32) (fa : Vec F S32x2048 .f32) (ft : Vec F S32x256 .i32) :
    (iprop(barKit B K c
      ∗ owes (c : Thread nD τ) (Oarr c + tallyAt (barCell (pe c 0)) () 1 + tallyAt (barCell (pe c 1)) () 1 + tallyAt (barCell (pe c 2)) () 1) W
      ∗ (arg4.view.loc (c : Thread nD τ) ↦[arg4.view.set]{fullShare} arg4.view.rep bt)
      ∗ (arg5.view.loc (c : Thread nD τ) ↦[arg5.view.set]{fullShare} arg5.view.rep ln)
      ∗ (mB.view.loc (c : Thread nD τ) ↦{fullShare} fm)
      ∗ (lB.view.loc (c : Thread nD τ) ↦{fullShare} fl)
      ∗ (aB.view.loc (c : Thread nD τ) ↦{fullShare} fa)
      ∗ (tB.view.loc (c : Thread nD τ) ↦{fullShare} ft)) : sProp 𝕄)
    ⊢ wp frame (wpE (defs₀ (F := F)) 𝒱₀ (c : Thread nD τ) none) Set.univ
        (k0_part27 i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)
        (fun r => iprop(⌜r = ⟨BitVec.ofNat 32 (i 0).val, c, cx c, cy c, cz c, k0_pay46 i c (ldT tB (initT bt ln)), iota .tc S32x1024 32 [1] iota_S32x1024_d1_w32, 32#32, k0_pay47, k0_pay48, Scalar.extui (Scalar.cmpi .sgt 32#32 0#32), Scalar.extui (Scalar.cmpi .slt 32#32 0#32)⟩⌝
          ∗ (arg4.view.loc (c : Thread nD τ) ↦[arg4.view.set]{fullShare} arg4.view.rep bt)
          ∗ (arg5.view.loc (c : Thread nD τ) ↦[arg5.view.set]{fullShare} arg5.view.rep ln)
          ∗ (mB.view.loc (c : Thread nD τ) ↦{fullShare} mB.view.rep (k0_pay2 (F := F)))
          ∗ (lB.view.loc (c : Thread nD τ) ↦{fullShare} lB.view.rep (k0_pay3 (F := F)))
          ∗ (aB.view.loc (c : Thread nD τ) ↦{fullShare} aB.view.rep (k0_pay4 (F := F)))
          ∗ (tB.view.loc (c : Thread nD τ) ↦{fullShare} tB.view.rep (initT bt ln))
          ∗ (∃ W', owes (c : Thread nD τ) (Oarr c) W') ∗ barDone c : sProp 𝕄)) := by
  have e1 := fun h => Fin.ext (a := (⟨k0_dev1 c, h⟩ : Dev nD)) (devs c).1
  have e2 := fun h => Fin.ext (a := (⟨k0_dev2 c, h⟩ : Dev nD)) (devs c).2.1
  have e3 := fun h => Fin.ext (a := (⟨k0_dev3 c, h⟩ : Dev nD)) (devs c).2.2.1
  have hmw := mayWait_bar (F := F) c
  istart
  unfold barKit barDone
  iintro ⟨⟨#Ib, #I0, #I1, #I2, #R0, #R1, #R2, T0, T1, T2, Hat, Hc, #Hlv, HS0, HS1, HS2⟩, HO, Hbt, Hln, Hm, Hl, Ha, Ht⟩
  sl_exec_parts
  sl_step
  have hL : part27_first.sl.Ht_1 (F := F) arg4 arg5 bt ln = [⟨Rect.unit (s := S32x256) ![0, 0] S32x256.size inb_S32x256_S32x256_0_0, initT bt ln⟩] := by
    unfold part27_first.sl.Ht_1 part27_first.sl.v779 part27_first.sl.v776 part27_first.sl.v774 part27_first.sl.v772 part27_first.sl.v771 part27_first.sl.v770
    rw [View.readAt_rep_full arg5.view ln _, View.readAt_rep_full arg4.view bt _]
    rfl
  have hT : part27_first.sl.v18 (F := F) arg4 arg5 bt ln = ldT tB (initT bt ln) := by
    rw [ldT_eq]; unfold part27_first.sl.v18
    rw [hL]; exact View.readCov_full _ _ _ _ _
  isplitr
  · ipureintro; unfold part27_first.sl.v24 part27_first.sl.v23 part27_first.sl.v22 part27_first.sl.v21 part27_first.sl.v20 part27_first.sl.v19; rw [hT]; rfl
  isplitl [Hbt]; · iexact Hbt
  isplitl [Hln]; · iexact Hln
  isplitl [Hm]; · iapply (store_to_rep mB (View.set_whole _) c); iexact Hm
  isplitl [Hl]; · iapply (store_to_rep lB (View.set_whole _) c); iexact Hl
  isplitl [Ha]; · iapply (store_to_rep aB (View.set_whole _) c); iexact Ha
  isplitl [Ht]; · rw [hL]; iapply (store_to_rep tB (View.set_whole _) c); iexact Ht
  isplitl [HO]; · iexists _; iexact HO
  isplitl [Hat]; · iexact Hat
  iexact Hat_pay1
set_option maxRecDepth 16384 in
set_option sl_exec.resultNames true in
set_option maxHeartbeats 0 in
theorem part45_first (hc1 : k0_cond1 i = 1#1) (fm : Vec F S32x16 .f32) (fl : Vec F S32x16 .f32) (fa : Vec F S32x2048 .f32) (ft : Vec F S32x256 .i32) :
    (iprop(barKit B K c
      ∗ owes (c : Thread nD τ) (Oarr c + tallyAt (barCell (pe c 0)) () 1 + tallyAt (barCell (pe c 1)) () 1 + tallyAt (barCell (pe c 2)) () 1) W
      ∗ (arg1.view.loc (c : Thread nD τ) ↦[arg1.view.set]{fullShare} arg1.view.rep q)
      ∗ (arg2.view.loc (c : Thread nD τ) ↦[arg2.view.set]{fullShare} arg2.view.rep k)
      ∗ (arg3.view.loc (c : Thread nD τ) ↦[arg3.view.set]{fullShare} arg3.view.rep v)
      ∗ (arg4.view.loc (c : Thread nD τ) ↦[arg4.view.set]{fullShare} arg4.view.rep bt)
      ∗ (arg5.view.loc (c : Thread nD τ) ↦[arg5.view.set]{fullShare} arg5.view.rep ln)
      ∗ (mB.view.loc (c : Thread nD τ) ↦{fullShare} fm)
      ∗ (lB.view.loc (c : Thread nD τ) ↦{fullShare} fl)
      ∗ (aB.view.loc (c : Thread nD τ) ↦{fullShare} fa)
      ∗ (tB.view.loc (c : Thread nD τ) ↦{fullShare} ft)) : sProp 𝕄)
    ⊢ wp frame (wpE (defs₀ (F := F)) 𝒱₀ (c : Thread nD τ) none) Set.univ
        (k0_part45 i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)
        (fun r => iprop(⌜r = ⟨c, cx c, cy c, cz c⟩⌝
          ∗ (arg1.view.loc (c : Thread nD τ) ↦[arg1.view.set]{fullShare} arg1.view.rep q)
          ∗ (arg2.view.loc (c : Thread nD τ) ↦[arg2.view.set]{fullShare} arg2.view.rep k)
          ∗ (arg3.view.loc (c : Thread nD τ) ↦[arg3.view.set]{fullShare} arg3.view.rep v)
          ∗ (arg4.view.loc (c : Thread nD τ) ↦[arg4.view.set]{fullShare} arg4.view.rep bt)
          ∗ (arg5.view.loc (c : Thread nD τ) ↦[arg5.view.set]{fullShare} arg5.view.rep ln)
          ∗ (mB.view.loc (c : Thread nD τ) ↦{fullShare} mB.view.rep (newM q k (k0_pay2 (F := F))))
          ∗ (lB.view.loc (c : Thread nD τ) ↦{fullShare} lB.view.rep (newL i c q k (k0_pay2 (F := F)) (k0_pay3 (F := F)) (initT bt ln)))
          ∗ (aB.view.loc (c : Thread nD τ) ↦{fullShare} aB.view.rep (newA i c q k v (k0_pay2 (F := F)) (k0_pay4 (F := F)) (initT bt ln)))
          ∗ (tB.view.loc (c : Thread nD τ) ↦{fullShare} tB.view.rep (initT bt ln))
          ∗ (∃ W', owes (c : Thread nD τ) (Oarr c) W') ∗ barDone c : sProp 𝕄)) := by
  have hcut := part27_first c i arg1 harg1 arg2 harg2 arg3 harg3 arg4 harg4 arg5 harg5 arg6 harg6 bt ln B K W hc1 fm fl fa ft
  istart
  iintro ⟨Hkit, HO, Hq, Hk, Hv, Hbt, Hln, Hm, Hl, Ha, Ht⟩
  sl_exec_parts
  cases hk0_part27_0
  sl_step
  isplitr
  · ipureintro; rfl
  isplitl [Hq]; · iexact Hq
  isplitl [Hk]; · iexact Hk
  isplitl [Hv]; · iexact Hv
  isplitl [Hk0_part27_1]; · iexact Hk0_part27_1
  isplitl [Hk0_part27_2]; · iexact Hk0_part27_2
  isplitl [Hk0_part27_3]
  · exact writes_to_rep mB (View.set_whole _) c (mB.view.rep (k0_pay2 (F := F))) (newM q k (k0_pay2 (F := F))) (storesM arg1 arg2 q k (k0_pay2 (F := F)))
      (piecesOf_map _ _ (pieceM arg1 arg2 mB q k (k0_pay2 (F := F))) down) S32x1.size (by sl_kernel_rfl)
  isplitl [Hk0_part27_4]
  · exact writes_to_rep lB (View.set_whole _) c (lB.view.rep (k0_pay3 (F := F))) (newL i c q k (k0_pay2 (F := F)) (k0_pay3 (F := F)) (initT bt ln)) (storesL arg1 arg2 i c q k (k0_pay2 (F := F)) (k0_pay3 (F := F)) (initT bt ln))
      (piecesOf_map _ _ (pieceL arg1 arg2 mB lB tB i c q k (k0_pay2 (F := F)) (k0_pay3 (F := F)) (initT bt ln)) down) S32x1.size (by sl_kernel_rfl)
  isplitl [Hk0_part27_5]
  · exact writes_to_rep aB (View.set_whole _) c (aB.view.rep (k0_pay4 (F := F))) (newA i c q k v (k0_pay2 (F := F)) (k0_pay4 (F := F)) (initT bt ln)) (storesA arg1 arg2 arg3 i c q k v (k0_pay2 (F := F)) (k0_pay4 (F := F)) (initT bt ln))
      (piecesOf_map _ _ (pieceA arg1 arg2 arg3 mB aB tB i c q k v (k0_pay2 (F := F)) (k0_pay4 (F := F)) (initT bt ln)) down) S32x128.size (by sl_kernel_rfl)
  isplitl [Hk0_part27_6]; · iexact Hk0_part27_6
  isplitl [Hk0_part27_7]; · iexists _; iexact Hk0_part27_7
  iexact Hk0_part27_8

end Args
end Cert.Paged
-- ==== Proof.Slots.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.Protocol
public import Idealize.ShloMosaic.Lib.Ring.Trips
public import Idealize.ShloMosaic.Lib.ValueLayout

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F] [Named F]

local notation "𝕄" => MT nD τ sig Unit (Elt F) ℕ UU ℕ

/-! # The landing slots and the whole landing buffers -/

open Idealize.ShloMosaic.ValueIdx

theorem bigSep_three (Φ : Fin 3 → sProp 𝕄) : bigSep Finset.univ Φ = iprop(Φ 0 ∗ Φ 1 ∗ Φ 2) := bigSep_univ_eq_bigSepL [0, 1, 2] (by decide) (by decide) Φ

/-- Three arrays, one after the other. -/
def stack {n : ℕ} {e : EltTy} (w : Fin 3 → Vec F ⟨2, ![32, n]⟩ e) : Vec F ⟨3, ![3, 32, n]⟩ e := fun y => w (y 0) (ix2 (y 1) (y 2))

theorem emb_slotO (d : Fin 3) (x : S32x2048.Idx) : (slotO d).view.emb x = (ix3 d (x 0) (x 1) : S3x32x2048.Idx) := by
  show (Rect.unit (s := S3x32x2048) ![d.val, 0, 0] S1x32x2048.size (inbSlO d)).emb (Shape.reshapeEquiv _ x) = _
  have h : Shape.reshapeEquiv (squeezes_S1x32x2048_S32x2048.numel_eq) x = (ix3 0 (x 0) (x 1) : S1x32x2048.Idx) := by
    conv_lhs => rw [eq_ix2 x]
    exact reshapeEquiv_ix2_1ab _ _ _
  erw [h]
  funext a
  apply Fin.ext
  rw [Rect.emb_apply]
  match a with
  | ⟨0, _⟩ => show d.val + 1 * 0 = d.val; omega
  | ⟨1, _⟩ => show 0 + 1 * (x 0).val = (x 0).val; omega
  | ⟨2, _⟩ => show 0 + 1 * (x 1).val = (x 1).val; omega

theorem disj_slotO (d d' : Fin 3) (h : d ≠ d') : Disjoint (slotO d).view.set (slotO d').view.set := by
  rw [Finset.disjoint_left]
  intro i hi hi'
  obtain ⟨x, -, rfl⟩ := Finset.mem_map.mp hi
  obtain ⟨x', -, hx⟩ := Finset.mem_map.mp hi'
  rw [emb_slotO] at hx
  erw [emb_slotO] at hx
  exact h (congrFun hx 0).symm

theorem cover_slotO : (Finset.univ : Finset (Fin 3)).biUnion (fun d => (slotO d).view.set) = (Finset.univ : Finset S3x32x2048.Idx) := by
  refine Finset.eq_univ_iff_forall.mpr fun y => Finset.mem_biUnion.mpr ⟨y 0, Finset.mem_univ _, Finset.mem_map.mpr ⟨(ix2 (y 1) (y 2) : S32x2048.Idx), Finset.mem_univ _, ?_⟩⟩
  exact (emb_slotO (y 0) (ix2 (y 1) (y 2))).trans (eq_ix3 y).symm

/-- The whole buffer is its three slots. -/
theorem split_slotO (c : Dev nD) (f : Buf (Elt F) (obB.view.loc (c : Thread nD τ))) :
    (obB.view.loc (c : Thread nD τ) ↦{fullShare} f : sProp 𝕄)
      = bigSep Finset.univ (fun d : Fin 3 => (slotO d).view.loc (c : Thread nD τ) ↦[(slotO d).view.set]{fullShare} f) := by
  have h := pointsTo_biUnion (nD := nD) (τ := τ) (sig := sig) (Ix := Unit) (Val := Elt F) (Name := ℕ) (U := UU) (Lvl := ℕ) (ℓ := obB.view.loc (c : Thread nD τ))
    (q := fullShare) (f := f) Finset.univ (fun d => (slotO d).view.set) fun d _ d' _ h => disj_slotO d d' h
  exact (congrArg (fun S => (obB.view.loc (c : Thread nD τ) ↦[S]{fullShare} f : sProp 𝕄)) cover_slotO.symm).trans h

theorem write_slotO (c : Dev nD) (d : Fin 3) (f : Buf (Elt F) ((slotO d).view.loc (c : Thread nD τ))) (w : Fin 3 → Vec F S32x2048 .bf16) :
    ((slotO d).view.loc (c : Thread nD τ) ↦[(slotO d).view.set]{fullShare} (slotO d).view.write (Elt F) f (w d) Finset.univ : sProp 𝕄)
      = ((slotO d).view.loc (c : Thread nD τ) ↦[(slotO d).view.set]{fullShare} obB.view.rep (stack w)) := by
  refine pointsTo_congr fun i hi => ?_
  obtain ⟨x, -, rfl⟩ := Finset.mem_map.mp hi
  refine (View.write_emb_of_mem (v := (slotO d).view) (Val := Elt F) f (w d) (Finset.mem_univ x)).trans ?_
  have h := View.rep_emb (Val := Elt F) obB.view (stack w) ((slotO d).view.emb x)
  refine Eq.trans ?_ h.symm
  have h2 : stack w ((slotO d).view.emb x) = w d x := by
    rw [emb_slotO]; exact congrArg (w d) (eq_ix2 x).symm
  rw [h2]

/-- Three written slots are the whole buffer, held at what was written. -/
theorem join_slotO (c : Dev nD) (f0 f1 f2 : Buf (Elt F) (obB.view.loc (c : Thread nD τ))) (w : Fin 3 → Vec F S32x2048 .bf16) :
    (iprop(((slotO 0).view.loc (c : Thread nD τ) ↦[(slotO 0).view.set]{fullShare} (slotO 0).view.write (Elt F) f0 (w 0) Finset.univ)
      ∗ ((slotO 1).view.loc (c : Thread nD τ) ↦[(slotO 1).view.set]{fullShare} (slotO 1).view.write (Elt F) f1 (w 1) Finset.univ)
      ∗ ((slotO 2).view.loc (c : Thread nD τ) ↦[(slotO 2).view.set]{fullShare} (slotO 2).view.write (Elt F) f2 (w 2) Finset.univ)) : sProp 𝕄)
      ⊢ obB.view.loc (c : Thread nD τ) ↦{fullShare} obB.view.rep (stack w) := by
  rw [write_slotO c 0 f0 w, write_slotO c 1 f1 w, write_slotO c 2 f2 w, split_slotO, bigSep_three]

theorem emb_slotM (d : Fin 3) (x : S32x16.Idx) : (slotM d).view.emb x = (ix3 d (x 0) (x 1) : S3x32x16.Idx) := by
  show (Rect.unit (s := S3x32x16) ![d.val, 0, 0] S1x32x16.size (inbSlM d)).emb (Shape.reshapeEquiv _ x) = _
  have h : Shape.reshapeEquiv (squeezes_S1x32x16_S32x16.numel_eq) x = (ix3 0 (x 0) (x 1) : S1x32x16.Idx) := by
    conv_lhs => rw [eq_ix2 x]
    exact reshapeEquiv_ix2_1ab _ _ _
  erw [h]
  funext a
  apply Fin.ext
  rw [Rect.emb_apply]
  match a with
  | ⟨0, _⟩ => show d.val + 1 * 0 = d.val; omega
  | ⟨1, _⟩ => show 0 + 1 * (x 0).val = (x 0).val; omega
  | ⟨2, _⟩ => show 0 + 1 * (x 1).val = (x 1).val; omega

theorem disj_slotM (d d' : Fin 3) (h : d ≠ d') : Disjoint (slotM d).view.set (slotM d').view.set := by
  rw [Finset.disjoint_left]
  intro i hi hi'
  obtain ⟨x, -, rfl⟩ := Finset.mem_map.mp hi
  obtain ⟨x', -, hx⟩ := Finset.mem_map.mp hi'
  rw [emb_slotM] at hx
  erw [emb_slotM] at hx
  exact h (congrFun hx 0).symm

theorem cover_slotM : (Finset.univ : Finset (Fin 3)).biUnion (fun d => (slotM d).view.set) = (Finset.univ : Finset S3x32x16.Idx) := by
  refine Finset.eq_univ_iff_forall.mpr fun y => Finset.mem_biUnion.mpr ⟨y 0, Finset.mem_univ _, Finset.mem_map.mpr ⟨(ix2 (y 1) (y 2) : S32x16.Idx), Finset.mem_univ _, ?_⟩⟩
  exact (emb_slotM (y 0) (ix2 (y 1) (y 2))).trans (eq_ix3 y).symm

/-- The whole buffer is its three slots. -/
theorem split_slotM (c : Dev nD) (f : Buf (Elt F) (mbB.view.loc (c : Thread nD τ))) :
    (mbB.view.loc (c : Thread nD τ) ↦{fullShare} f : sProp 𝕄)
      = bigSep Finset.univ (fun d : Fin 3 => (slotM d).view.loc (c : Thread nD τ) ↦[(slotM d).view.set]{fullShare} f) := by
  have h := pointsTo_biUnion (nD := nD) (τ := τ) (sig := sig) (Ix := Unit) (Val := Elt F) (Name := ℕ) (U := UU) (Lvl := ℕ) (ℓ := mbB.view.loc (c : Thread nD τ))
    (q := fullShare) (f := f) Finset.univ (fun d => (slotM d).view.set) fun d _ d' _ h => disj_slotM d d' h
  exact (congrArg (fun S => (mbB.view.loc (c : Thread nD τ) ↦[S]{fullShare} f : sProp 𝕄)) cover_slotM.symm).trans h

theorem write_slotM (c : Dev nD) (d : Fin 3) (f : Buf (Elt F) ((slotM d).view.loc (c : Thread nD τ))) (w : Fin 3 → Vec F S32x16 .f32) :
    ((slotM d).view.loc (c : Thread nD τ) ↦[(slotM d).view.set]{fullShare} (slotM d).view.write (Elt F) f (w d) Finset.univ : sProp 𝕄)
      = ((slotM d).view.loc (c : Thread nD τ) ↦[(slotM d).view.set]{fullShare} mbB.view.rep (stack w)) := by
  refine pointsTo_congr fun i hi => ?_
  obtain ⟨x, -, rfl⟩ := Finset.mem_map.mp hi
  refine (View.write_emb_of_mem (v := (slotM d).view) (Val := Elt F) f (w d) (Finset.mem_univ x)).trans ?_
  have h := View.rep_emb (Val := Elt F) mbB.view (stack w) ((slotM d).view.emb x)
  refine Eq.trans ?_ h.symm
  have h2 : stack w ((slotM d).view.emb x) = w d x := by
    rw [emb_slotM]; exact congrArg (w d) (eq_ix2 x).symm
  rw [h2]

/-- Three written slots are the whole buffer, held at what was written. -/
theorem join_slotM (c : Dev nD) (f0 f1 f2 : Buf (Elt F) (mbB.view.loc (c : Thread nD τ))) (w : Fin 3 → Vec F S32x16 .f32) :
    (iprop(((slotM 0).view.loc (c : Thread nD τ) ↦[(slotM 0).view.set]{fullShare} (slotM 0).view.write (Elt F) f0 (w 0) Finset.univ)
      ∗ ((slotM 1).view.loc (c : Thread nD τ) ↦[(slotM 1).view.set]{fullShare} (slotM 1).view.write (Elt F) f1 (w 1) Finset.univ)
      ∗ ((slotM 2).view.loc (c : Thread nD τ) ↦[(slotM 2).view.set]{fullShare} (slotM 2).view.write (Elt F) f2 (w 2) Finset.univ)) : sProp 𝕄)
      ⊢ mbB.view.loc (c : Thread nD τ) ↦{fullShare} mbB.view.rep (stack w) := by
  rw [write_slotM c 0 f0 w, write_slotM c 1 f1 w, write_slotM c 2 f2 w, split_slotM, bigSep_three]

theorem emb_slotL (d : Fin 3) (x : S32x16.Idx) : (slotL d).view.emb x = (ix3 d (x 0) (x 1) : S3x32x16.Idx) := by
  show (Rect.unit (s := S3x32x16) ![d.val, 0, 0] S1x32x16.size (inbSlM d)).emb (Shape.reshapeEquiv _ x) = _
  have h : Shape.reshapeEquiv (squeezes_S1x32x16_S32x16.numel_eq) x = (ix3 0 (x 0) (x 1) : S1x32x16.Idx) := by
    conv_lhs => rw [eq_ix2 x]
    exact reshapeEquiv_ix2_1ab _ _ _
  erw [h]
  funext a
  apply Fin.ext
  rw [Rect.emb_apply]
  match a with
  | ⟨0, _⟩ => show d.val + 1 * 0 = d.val; omega
  | ⟨1, _⟩ => show 0 + 1 * (x 0).val = (x 0).val; omega
  | ⟨2, _⟩ => show 0 + 1 * (x 1).val = (x 1).val; omega

theorem disj_slotL (d d' : Fin 3) (h : d ≠ d') : Disjoint (slotL d).view.set (slotL d').view.set := by
  rw [Finset.disjoint_left]
  intro i hi hi'
  obtain ⟨x, -, rfl⟩ := Finset.mem_map.mp hi
  obtain ⟨x', -, hx⟩ := Finset.mem_map.mp hi'
  rw [emb_slotL] at hx
  erw [emb_slotL] at hx
  exact h (congrFun hx 0).symm

theorem cover_slotL : (Finset.univ : Finset (Fin 3)).biUnion (fun d => (slotL d).view.set) = (Finset.univ : Finset S3x32x16.Idx) := by
  refine Finset.eq_univ_iff_forall.mpr fun y => Finset.mem_biUnion.mpr ⟨y 0, Finset.mem_univ _, Finset.mem_map.mpr ⟨(ix2 (y 1) (y 2) : S32x16.Idx), Finset.mem_univ _, ?_⟩⟩
  exact (emb_slotL (y 0) (ix2 (y 1) (y 2))).trans (eq_ix3 y).symm

/-- The whole buffer is its three slots. -/
theorem split_slotL (c : Dev nD) (f : Buf (Elt F) (lbB.view.loc (c : Thread nD τ))) :
    (lbB.view.loc (c : Thread nD τ) ↦{fullShare} f : sProp 𝕄)
      = bigSep Finset.univ (fun d : Fin 3 => (slotL d).view.loc (c : Thread nD τ) ↦[(slotL d).view.set]{fullShare} f) := by
  have h := pointsTo_biUnion (nD := nD) (τ := τ) (sig := sig) (Ix := Unit) (Val := Elt F) (Name := ℕ) (U := UU) (Lvl := ℕ) (ℓ := lbB.view.loc (c : Thread nD τ))
    (q := fullShare) (f := f) Finset.univ (fun d => (slotL d).view.set) fun d _ d' _ h => disj_slotL d d' h
  exact (congrArg (fun S => (lbB.view.loc (c : Thread nD τ) ↦[S]{fullShare} f : sProp 𝕄)) cover_slotL.symm).trans h

theorem write_slotL (c : Dev nD) (d : Fin 3) (f : Buf (Elt F) ((slotL d).view.loc (c : Thread nD τ))) (w : Fin 3 → Vec F S32x16 .f32) :
    ((slotL d).view.loc (c : Thread nD τ) ↦[(slotL d).view.set]{fullShare} (slotL d).view.write (Elt F) f (w d) Finset.univ : sProp 𝕄)
      = ((slotL d).view.loc (c : Thread nD τ) ↦[(slotL d).view.set]{fullShare} lbB.view.rep (stack w)) := by
  refine pointsTo_congr fun i hi => ?_
  obtain ⟨x, -, rfl⟩ := Finset.mem_map.mp hi
  refine (View.write_emb_of_mem (v := (slotL d).view) (Val := Elt F) f (w d) (Finset.mem_univ x)).trans ?_
  have h := View.rep_emb (Val := Elt F) lbB.view (stack w) ((slotL d).view.emb x)
  refine Eq.trans ?_ h.symm
  have h2 : stack w ((slotL d).view.emb x) = w d x := by
    rw [emb_slotL]; exact congrArg (w d) (eq_ix2 x).symm
  rw [h2]

/-- Three written slots are the whole buffer, held at what was written. -/
theorem join_slotL (c : Dev nD) (f0 f1 f2 : Buf (Elt F) (lbB.view.loc (c : Thread nD τ))) (w : Fin 3 → Vec F S32x16 .f32) :
    (iprop(((slotL 0).view.loc (c : Thread nD τ) ↦[(slotL 0).view.set]{fullShare} (slotL 0).view.write (Elt F) f0 (w 0) Finset.univ)
      ∗ ((slotL 1).view.loc (c : Thread nD τ) ↦[(slotL 1).view.set]{fullShare} (slotL 1).view.write (Elt F) f1 (w 1) Finset.univ)
      ∗ ((slotL 2).view.loc (c : Thread nD τ) ↦[(slotL 2).view.set]{fullShare} (slotL 2).view.write (Elt F) f2 (w 2) Finset.univ)) : sProp 𝕄)
      ⊢ lbB.view.loc (c : Thread nD τ) ↦{fullShare} lbB.view.rep (stack w) := by
  rw [write_slotL c 0 f0 w, write_slotL c 1 f1 w, write_slotL c 2 f2 w, split_slotL, bigSep_three]

theorem thirds_oB (B : Sent F) (c : Dev nD) :
    (iprop((oB.view.loc (c : Thread nD τ) ↦[oB.view.set]{shares3 fullShare 0} oB.view.rep (B.o c))
      ∗ (oB.view.loc (c : Thread nD τ) ↦[oB.view.set]{shares3 fullShare 1} oB.view.rep (B.o c))
      ∗ (oB.view.loc (c : Thread nD τ) ↦[oB.view.set]{shares3 fullShare 2} oB.view.rep (B.o c))) : sProp 𝕄)
      ⊢ oB.view.loc (c : Thread nD τ) ↦{fullShare} oB.view.rep (B.o c) :=
  (pointsTo_thirds (ℓ := oB.view.loc (c : Thread nD τ)) (I := oB.view.set) fullShare (oB.view.rep (B.o c))).2.trans
    (Entails.of_eq (congrArg (fun S => (oB.view.loc (c : Thread nD τ) ↦[S]{fullShare} oB.view.rep (B.o c) : sProp 𝕄)) (View.set_whole _)))

theorem landed_slotO (B : Sent F) (c : Dev nD) (f0 f1 f2 : Buf (Elt F) (obB.view.loc (c : Thread nD τ))) :
    (iprop(((slotO 0).view.loc (c : Thread nD τ) ↦[(slotO 0).view.set]{fullShare} (slotO 0).view.write (Elt F) f0 (oB.view.read (Elt F) (oB.view.rep (B.o (po c 0)))) Finset.univ)
      ∗ ((slotO 1).view.loc (c : Thread nD τ) ↦[(slotO 1).view.set]{fullShare} (slotO 1).view.write (Elt F) f1 (oB.view.read (Elt F) (oB.view.rep (B.o (po c 1)))) Finset.univ)
      ∗ ((slotO 2).view.loc (c : Thread nD τ) ↦[(slotO 2).view.set]{fullShare} (slotO 2).view.write (Elt F) f2 (oB.view.read (Elt F) (oB.view.rep (B.o (po c 2)))) Finset.univ)) : sProp 𝕄)
      ⊢ obB.view.loc (c : Thread nD τ) ↦{fullShare} obB.view.rep (stack fun d => B.o (po c d)) := by
  rw [View.read_rep oB.view (B.o (po c 0)), View.read_rep oB.view (B.o (po c 1)), View.read_rep oB.view (B.o (po c 2))]
  exact join_slotO c f0 f1 f2 (fun d => B.o (po c d))

theorem thirds_mB (B : Sent F) (c : Dev nD) :
    (iprop((mB.view.loc (c : Thread nD τ) ↦[mB.view.set]{shares3 fullShare 0} mB.view.rep (B.m c))
      ∗ (mB.view.loc (c : Thread nD τ) ↦[mB.view.set]{shares3 fullShare 1} mB.view.rep (B.m c))
      ∗ (mB.view.loc (c : Thread nD τ) ↦[mB.view.set]{shares3 fullShare 2} mB.view.rep (B.m c))) : sProp 𝕄)
      ⊢ mB.view.loc (c : Thread nD τ) ↦{fullShare} mB.view.rep (B.m c) :=
  (pointsTo_thirds (ℓ := mB.view.loc (c : Thread nD τ)) (I := mB.view.set) fullShare (mB.view.rep (B.m c))).2.trans
    (Entails.of_eq (congrArg (fun S => (mB.view.loc (c : Thread nD τ) ↦[S]{fullShare} mB.view.rep (B.m c) : sProp 𝕄)) (View.set_whole _)))

theorem landed_slotM (B : Sent F) (c : Dev nD) (f0 f1 f2 : Buf (Elt F) (mbB.view.loc (c : Thread nD τ))) :
    (iprop(((slotM 0).view.loc (c : Thread nD τ) ↦[(slotM 0).view.set]{fullShare} (slotM 0).view.write (Elt F) f0 (mB.view.read (Elt F) (mB.view.rep (B.m (po c 0)))) Finset.univ)
      ∗ ((slotM 1).view.loc (c : Thread nD τ) ↦[(slotM 1).view.set]{fullShare} (slotM 1).view.write (Elt F) f1 (mB.view.read (Elt F) (mB.view.rep (B.m (po c 1)))) Finset.univ)
      ∗ ((slotM 2).view.loc (c : Thread nD τ) ↦[(slotM 2).view.set]{fullShare} (slotM 2).view.write (Elt F) f2 (mB.view.read (Elt F) (mB.view.rep (B.m (po c 2)))) Finset.univ)) : sProp 𝕄)
      ⊢ mbB.view.loc (c : Thread nD τ) ↦{fullShare} mbB.view.rep (stack fun d => B.m (po c d)) := by
  rw [View.read_rep mB.view (B.m (po c 0)), View.read_rep mB.view (B.m (po c 1)), View.read_rep mB.view (B.m (po c 2))]
  exact join_slotM c f0 f1 f2 (fun d => B.m (po c d))

theorem thirds_lB (B : Sent F) (c : Dev nD) :
    (iprop((lB.view.loc (c : Thread nD τ) ↦[lB.view.set]{shares3 fullShare 0} lB.view.rep (B.l c))
      ∗ (lB.view.loc (c : Thread nD τ) ↦[lB.view.set]{shares3 fullShare 1} lB.view.rep (B.l c))
      ∗ (lB.view.loc (c : Thread nD τ) ↦[lB.view.set]{shares3 fullShare 2} lB.view.rep (B.l c))) : sProp 𝕄)
      ⊢ lB.view.loc (c : Thread nD τ) ↦{fullShare} lB.view.rep (B.l c) :=
  (pointsTo_thirds (ℓ := lB.view.loc (c : Thread nD τ)) (I := lB.view.set) fullShare (lB.view.rep (B.l c))).2.trans
    (Entails.of_eq (congrArg (fun S => (lB.view.loc (c : Thread nD τ) ↦[S]{fullShare} lB.view.rep (B.l c) : sProp 𝕄)) (View.set_whole _)))

theorem landed_slotL (B : Sent F) (c : Dev nD) (f0 f1 f2 : Buf (Elt F) (lbB.view.loc (c : Thread nD τ))) :
    (iprop(((slotL 0).view.loc (c : Thread nD τ) ↦[(slotL 0).view.set]{fullShare} (slotL 0).view.write (Elt F) f0 (lB.view.read (Elt F) (lB.view.rep (B.l (po c 0)))) Finset.univ)
      ∗ ((slotL 1).view.loc (c : Thread nD τ) ↦[(slotL 1).view.set]{fullShare} (slotL 1).view.write (Elt F) f1 (lB.view.read (Elt F) (lB.view.rep (B.l (po c 1)))) Finset.univ)
      ∗ ((slotL 2).view.loc (c : Thread nD τ) ↦[(slotL 2).view.set]{fullShare} (slotL 2).view.write (Elt F) f2 (lB.view.read (Elt F) (lB.view.rep (B.l (po c 2)))) Finset.univ)) : sProp 𝕄)
      ⊢ lbB.view.loc (c : Thread nD τ) ↦{fullShare} lbB.view.rep (stack fun d => B.l (po c d)) := by
  rw [View.read_rep lB.view (B.l (po c 0)), View.read_rep lB.view (B.l (po c 1)), View.read_rep lB.view (B.l (po c 2))]
  exact join_slotL c f0 f1 f2 (fun d => B.l (po c d))

end Cert.Paged
-- ==== Proof.Merge.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.Protocol

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # The merge, one head at a time

The kernel's text states each head of the merge by itself; these are the same terms with the head a variable. -/

theorem inbG (d : Fin 3) : ∀ a, (![d.val, 0, 0] : Fin 3 → Nat) a + S1x32x16.size a ≤ S3x32x16.size a := by
  revert d; decide
theorem inbGo (d : Fin 3) (h : Fin 16) : ∀ a, (![d.val, 0, 128 * h.val] : Fin 3 → Nat) a + S1x32x128.size a ≤ S3x32x2048.size a := by
  revert d h; decide
theorem slicesC (h : Fin 16) : S32x16.Slices ![0, h.val] S32x1 := by
  revert h; decide

/-- One device's received maxima or sums, and one head of its received output. -/
def gWin {e : EltTy} (G : Vec F S3x32x16 e) (d : Fin 3) : Vec F S1x32x16 e := VecWindow.window G ![d.val, 0, 0] S1x32x16.size (inbG d)
def oWin {e : EltTy} (G : Vec F S3x32x2048 e) (d : Fin 3) (h : Fin 16) : Vec F S1x32x128 e := VecWindow.window G ![d.val, 0, 128 * h.val] S1x32x128.size (inbGo d h)

/-- Column `h` of a [32, 16] vector, spread over the 128 lanes. -/
def spread (x : FVec F S32x16 .f32) (h : Fin 16) : FVec F S32x128 .f32 :=
  broadcastTo S32x128 (extractStridedSlice S32x1 ![0, h.val] x (slicesC h)) broadcasts_S32x1_S32x128

/-- A received output's head, widened. -/
def wide (o : Vec F S1x32x128 .bf16) : FVec F S32x128 .f32 :=
  extf .f32 (shapeCast S32x128 o shapeCasts_S1x32x128_S32x128) bitsLt_bf16_f32

/-- The four rescaled outputs of a head added up and divided by the total. -/
def mergedHead (c0 c1 c2 c3 tot : FVec F S32x16 .f32) (a : Vec F S32x128 .f32) (o0 o1 o2 : Vec F S1x32x128 .bf16) (h : Fin 16) : FVec F S32x1x1x128 .f32 :=
  shapeCast S32x1x1x128 (divf (addf (addf (addf (mulf a (spread c0 h)) (mulf (wide o0) (spread c1 h))) (mulf (wide o1) (spread c2 h))) (mulf (wide o2) (spread c3 h))) (spread tot h))
    shapeCasts_S32x128_S32x1x1x128

/-- The factor of a device's own sums, and those of the three received ones. -/
def coef0 (M : Vec F S32x16 .f32) (g0 g1 g2 : Vec F S1x32x16 .f32) : FVec F S32x16 .f32 := k0_pay7 M g0 g1 g2 M
def coef1 (M : Vec F S32x16 .f32) (g0 g1 g2 : Vec F S1x32x16 .f32) : FVec F S32x16 .f32 := k0_pay8 M g0 g1 g2 g0
def coef2 (M : Vec F S32x16 .f32) (g0 g1 g2 : Vec F S1x32x16 .f32) : FVec F S32x16 .f32 := k0_pay9 M g0 g1 g2 g1
def coef3 (M : Vec F S32x16 .f32) (g0 g1 g2 : Vec F S1x32x16 .f32) : FVec F S32x16 .f32 := k0_pay11 M g0 g1 g2 g2
/-- The total of the weights. -/
def total (M L : Vec F S32x16 .f32) (g0 g1 g2 l0 l1 l2 : Vec F S1x32x16 .f32) : FVec F S32x16 .f32 :=
  k0_pay12 (k0_pay10 M g0 g1 g2 M L g0 l0 g1 l1) (coef3 M g0 g1 g2) l2

def at4 (r : Fin 32) (n : Fin 128) : S32x1x1x128.Idx := fun | 0 => r | 1 => (0 : Fin 1) | 2 => (0 : Fin 1) | 3 => n

/-- What the last grid point writes: the merge of a device's own sums with the three it received. -/
def merged (M L : Vec F S32x16 .f32) (A : Vec F S32x2048 .f32) (Gm Gl : Vec F S3x32x16 .f32) (Go : Vec F S3x32x2048 .bf16) : Vec F S32x1x16x128 .f32 := fun x =>
  mergedHead (coef0 M (gWin Gm 0) (gWin Gm 1) (gWin Gm 2)) (coef1 M (gWin Gm 0) (gWin Gm 1) (gWin Gm 2)) (coef2 M (gWin Gm 0) (gWin Gm 1) (gWin Gm 2))
    (coef3 M (gWin Gm 0) (gWin Gm 1) (gWin Gm 2)) (total M L (gWin Gm 0) (gWin Gm 1) (gWin Gm 2) (gWin Gl 0) (gWin Gl 1) (gWin Gl 2))
    (aWin A (x 2)) (oWin Go 0 (x 2)) (oWin Go 1 (x 2)) (oWin Go 2 (x 2)) (x 2) (at4 (x 0) (x 3))

abbrev ldG (bB : Memref sig .tc .vmem S3x32x16 .f32) (G : Vec F S3x32x16 .f32) (d : Fin 3) : Vec F S1x32x16 .f32 :=
  bB.view.readAt (Elt F) (Rect.unit (s := S3x32x16) ![d.val, 0, 0] S1x32x16.size (inbG d)).toLoadRect (bB.view.rep G)
abbrev ldGo (bB : Memref sig .tc .vmem S3x32x2048 .bf16) (G : Vec F S3x32x2048 .bf16) (d : Fin 3) (h : Fin 16) : Vec F S1x32x128 .bf16 :=
  bB.view.readAt (Elt F) (Rect.unit (s := S3x32x2048) ![d.val, 0, 128 * h.val] S1x32x128.size (inbGo d h)).toLoadRect (bB.view.rep G)

theorem ldG_eq (bB : Memref sig .tc .vmem S3x32x16 .f32) (G : Vec F S3x32x16 .f32) (d : Fin 3) : ldG bB G d = gWin G d :=
  View.readAt_rep_unit _ G _ rfl (inbG d)
theorem ldGo_eq (bB : Memref sig .tc .vmem S3x32x2048 .bf16) (G : Vec F S3x32x2048 .bf16) (d : Fin 3) (h : Fin 16) : ldGo bB G d h = oWin G d h :=
  View.readAt_rep_unit _ G _ rfl (inbGo d h)
abbrev ldW (bB : Memref sig .tc .vmem S32x16 .f32) (M : Vec F S32x16 .f32) : Vec F S32x16 .f32 :=
  bB.view.readAt (Elt F) (Rect.unit (s := S32x16) ![0, 0] S32x16.size inb_S32x16_S32x16_0_0).toLoadRect (bB.view.rep M)
theorem ldW_eq (bB : Memref sig .tc .vmem S32x16 .f32) (M : Vec F S32x16 .f32) : ldW bB M = M := View.readAt_rep_full _ M _

theorem emb4 (h : Fin 16) (y : S32x1x1x128.Idx) : ((Rect.unit (s := S32x1x16x128) ![0, 0, h.val, 0] S32x1x1x128.size (inbQ h)).emb y) 2 = h
    ∧ at4 (((Rect.unit (s := S32x1x16x128) ![0, 0, h.val, 0] S32x1x1x128.size (inbQ h)).emb y) 0) (((Rect.unit (s := S32x1x16x128) ![0, 0, h.val, 0] S32x1x1x128.size (inbQ h)).emb y) 3) = y := by
  have h1 : (y 1).val = 0 := Nat.lt_one_iff.1 (y 1).isLt
  have h2 : (y 2).val = 0 := Nat.lt_one_iff.1 (y 2).isLt
  refine ⟨Fin.ext ?_, ?_⟩
  · show h.val + 1 * (y 2).val = _; omega
  · funext a; exact match a with
      | 0 => Fin.ext (by show 0 + 1 * (y 0).val = _; omega)
      | 1 => Fin.ext h1.symm
      | 2 => Fin.ext h2.symm
      | 3 => Fin.ext (by show 0 + 1 * (y 3).val = _; omega)

/-- What is stored of a head, in the body's own loads. -/
def wStored (M L : Vec F S32x16 .f32) (A : Vec F S32x2048 .f32) (Gm Gl : Vec F S3x32x16 .f32) (Go : Vec F S3x32x2048 .bf16)
    (m1 l1 : Memref sig .tc .vmem S32x16 .f32) (a1 : Memref sig .tc .vmem S32x2048 .f32) (mb lb : Memref sig .tc .vmem S3x32x16 .f32) (ob : Memref sig .tc .vmem S3x32x2048 .bf16) (h : Fin 16) : FVec F S32x1x1x128 .f32 :=
  mergedHead (coef0 (ldW m1 M) (ldG mb Gm 0) (ldG mb Gm 1) (ldG mb Gm 2)) (coef1 (ldW m1 M) (ldG mb Gm 0) (ldG mb Gm 1) (ldG mb Gm 2))
    (coef2 (ldW m1 M) (ldG mb Gm 0) (ldG mb Gm 1) (ldG mb Gm 2)) (coef3 (ldW m1 M) (ldG mb Gm 0) (ldG mb Gm 1) (ldG mb Gm 2))
    (total (ldW m1 M) (ldW l1 L) (ldG mb Gm 0) (ldG mb Gm 1) (ldG mb Gm 2) (ldG lb Gl 0) (ldG lb Gl 1) (ldG lb Gl 2))
    (ldA a1 A h) (ldGo ob Go 0 h) (ldGo ob Go 1 h) (ldGo ob Go 2 h) h

theorem pieceW (M L : Vec F S32x16 .f32) (A : Vec F S32x2048 .f32) (Gm Gl : Vec F S3x32x16 .f32) (Go : Vec F S3x32x2048 .bf16)
    (m1 l1 : Memref sig .tc .vmem S32x16 .f32) (a1 : Memref sig .tc .vmem S32x2048 .f32) (mb lb : Memref sig .tc .vmem S3x32x16 .f32) (ob : Memref sig .tc .vmem S3x32x2048 .bf16) (h : Fin 16) (y : S32x1x1x128.Idx) :
    wStored M L A Gm Gl Go m1 l1 a1 mb lb ob h y = merged M L A Gm Gl Go ((Rect.unit (s := S32x1x16x128) ![0, 0, h.val, 0] S32x1x1x128.size (inbQ h)).emb y) := by
  obtain ⟨e1, e2⟩ := emb4 h y
  unfold wStored
  rw [ldW_eq, ldW_eq, ldA_eq]
  simp only [ldG_eq, ldGo_eq]
  unfold merged
  rw [e2, e1]

/-- The stores of the merge, the heads in `hs`, newest first. -/
abbrev storesW (M L : Vec F S32x16 .f32) (A : Vec F S32x2048 .f32) (Gm Gl : Vec F S3x32x16 .f32) (Go : Vec F S3x32x2048 .bf16) (hs : List (Fin 16)) : List (View.Piece (Elt F) S32x1x16x128 .f32) :=
  hs.map fun h => ⟨Rect.unit (s := S32x1x16x128) ![0, 0, h.val, 0] S32x1x1x128.size (inbQ h), wStored M L A Gm Gl Go mB lB aB mbB lbB obB h⟩

/-- A window after writes that are pieces of one function and tile it is held at that function. -/
theorem window_to_rep {s : Shape} {e : EltTy} (m : Memref sig .tc .vmem s e) (c : Dev nD)
    (f : Buf (Elt F) (m.view.loc (c : Thread nD τ))) (G : s.Idx → Elt F e)
    (L : List (View.Piece (Elt F) s e)) (hG : View.PiecesOf G L)
    (size : Fin s.rank → ℕ) (hc : View.Piece.tiledL L size = true) :
    (m.view.loc (c : Thread nD τ) ↦[m.view.set]{fullShare} m.view.writes (Elt F) f L : sProp 𝕄) ⊢ m.view.loc (c : Thread nD τ) ↦[m.view.set]{fullShare} m.view.rep G :=
  pointsTo_rep_of_read (Ix := Unit) (Name := ℕ) (U := UU) (Lvl := ℕ) (c : Thread nD τ) m (m.view.writes (Elt F) f L) fullShare G
    (funext fun y => View.read_writes_apply_of_pieces m.view f G L hG.mem y (View.cover_of_tiledL L size hc y))

/-- The output's window after the merge's sixteen stores. -/
theorem out_to_rep (m : Memref sig .tc .vmem S32x1x16x128 .f32) (c : Dev nD) (f : Buf (Elt F) (m.view.loc (c : Thread nD τ)))
    (M L : Vec F S32x16 .f32) (A : Vec F S32x2048 .f32) (Gm Gl : Vec F S3x32x16 .f32) (Go : Vec F S3x32x2048 .bf16) :
    (m.view.loc (c : Thread nD τ) ↦[m.view.set]{fullShare} m.view.writes (Elt F) f (storesW M L A Gm Gl Go down) : sProp 𝕄)
      ⊢ m.view.loc (c : Thread nD τ) ↦[m.view.set]{fullShare} m.view.rep (merged M L A Gm Gl Go) :=
  window_to_rep m c f (merged M L A Gm Gl Go) (storesW M L A Gm Gl Go down)
    (piecesOf_map _ _ (pieceW M L A Gm Gl Go mB lB aB mbB lbB obB) down) S32x1x1x128.size (by sl_kernel_rfl)

end Cert.Paged
-- ==== Proof.Exchange.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.First
public import proofs.«01_k».proof.Proof.Slots
public import proofs.«01_k».proof.Proof.Merge
public import Idealize.ShloMosaic.Lib.Ring.Trips

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F] [Named F]

local notation "𝕄" => MT nD τ sig Unit (Elt F) ℕ UU ℕ

/-! # The last grid point: the exchange -/

/-- The indices of the departure and arrival cells among a device's nineteen. -/
abbrev ks (d a : Fin 3) : Fin 19 := ⟨1 + 3 * d.val + a.val, by omega⟩
abbrev kr (d a : Fin 3) : Fin 19 := ⟨10 + 3 * d.val + a.val, by omega⟩

/-- What one copy needs: the three cells it touches, the two duties it pays, the positions and the credit of its two waits. -/
def pairKit (B : Sent F) (K : Dev nD × Fin 19 → ℕ) (c : Dev nD) (d a : Fin 3) : sProp 𝕄 :=
  iprop(cellInv ER (Rd B) (K (c, ks d a)) (sendCell c d a) ∗ cellInv ER (Rd B) (K (c, kr d a)) (recvCell c d a)
    ∗ cellInv ER (Rd B) (K (pe c d, kr d a)) (recvCell (pe c d) d a)
    ∗ reached ER (sendCell c d a) 0 ∗ reached ER (recvCell (pe c d) d a) 0
    ∗ dutyTok ER (sendCell c d a) 0 0 ∗ dutyTok ER (recvCell (pe c d) d a) 0 0
    ∗ atPos ER (sendCell c d a) 0 ∅ 0 ∗ atPos ER (recvCell c d a) 0 ∅ 0
    ∗ cred (tallyAt (recvCell c d a) () (amt a)))

/-- What all nine copies need. -/
def exKit (B : Sent F) (K : Dev nD × Fin 19 → ℕ) (c : Dev nD) : sProp 𝕄 :=
  iprop(levAts Cert.Paged.L lv ∗ pairKit B K c 0 0 ∗ pairKit B K c 0 1 ∗ pairKit B K c 0 2 ∗ pairKit B K c 1 0 ∗ pairKit B K c 1 1 ∗ pairKit B K c 1 2
    ∗ pairKit B K c 2 0 ∗ pairKit B K c 2 1 ∗ pairKit B K c 2 2)

/-- What the nine copies leave of that. -/
def pairDone (c : Dev nD) (d a : Fin 3) : sProp 𝕄 :=
  iprop(atPos ER (sendCell c d a) 1 ∅ 0 ∗ atPos ER (recvCell c d a) 1 ∅ 0)

@[irreducible] def exDone (c : Dev nD) : sProp 𝕄 :=
  iprop(pairDone c 0 0 ∗ pairDone c 0 1 ∗ pairDone c 0 2 ∗ pairDone c 1 0 ∗ pairDone c 1 1 ∗ pairDone c 1 2
    ∗ pairDone c 2 0 ∗ pairDone c 2 1 ∗ pairDone c 2 2)

theorem amt_0 : amt 0 = 4096 := rfl
theorem amt_1 : amt 1 = 512 := rfl
theorem amt_2 : amt 2 = 512 := rfl
theorem Oarr_eq (c : Dev nD) : Oarr c =
  tallyAt (recvCell (pe c 0) 0 0) () 4096 + tallyAt (recvCell (pe c 0) 0 1) () 512 + tallyAt (recvCell (pe c 0) 0 2) () 512
    + tallyAt (recvCell (pe c 1) 1 0) () 4096 + tallyAt (recvCell (pe c 1) 1 1) () 512 + tallyAt (recvCell (pe c 1) 1 2) () 512
    + tallyAt (recvCell (pe c 2) 2 0) () 4096 + tallyAt (recvCell (pe c 2) 2 1) () 512 + tallyAt (recvCell (pe c 2) 2 2) () 512 := rfl

theorem sendPay_0 (B : Sent F) (c : Dev nD) (d : Fin 3) : sendPay B c d 0 =
    iprop(oB.view.loc (c : Thread nD τ) ↦[oB.view.set]{shares3 fullShare d} oB.view.rep (B.o c)) := rfl
theorem recvPay_0 (B : Sent F) (c : Dev nD) (d : Fin 3) : recvPay B c d 0 =
    iprop(∃ f, (slotO d).view.loc (c : Thread nD τ) ↦[(slotO d).view.set]{fullShare}
      (slotO d).view.write (Elt F) f (oB.view.read (Elt F) (oB.view.rep (B.o (po c d)))) Finset.univ) := rfl

theorem sendPay_1 (B : Sent F) (c : Dev nD) (d : Fin 3) : sendPay B c d 1 =
    iprop(mB.view.loc (c : Thread nD τ) ↦[mB.view.set]{shares3 fullShare d} mB.view.rep (B.m c)) := rfl
theorem recvPay_1 (B : Sent F) (c : Dev nD) (d : Fin 3) : recvPay B c d 1 =
    iprop(∃ f, (slotM d).view.loc (c : Thread nD τ) ↦[(slotM d).view.set]{fullShare}
      (slotM d).view.write (Elt F) f (mB.view.read (Elt F) (mB.view.rep (B.m (po c d)))) Finset.univ) := rfl

theorem sendPay_2 (B : Sent F) (c : Dev nD) (d : Fin 3) : sendPay B c d 2 =
    iprop(lB.view.loc (c : Thread nD τ) ↦[lB.view.set]{shares3 fullShare d} lB.view.rep (B.l c)) := rfl
theorem recvPay_2 (B : Sent F) (c : Dev nD) (d : Fin 3) : recvPay B c d 2 =
    iprop(∃ f, (slotL d).view.loc (c : Thread nD τ) ↦[(slotL d).view.set]{fullShare}
      (slotL d).view.write (Elt F) f (lB.view.read (Elt F) (lB.view.rep (B.l (po c d)))) Finset.univ) := rfl
section Args
variable (c : Dev nD) (i : grid0.Coords)
    (arg1 : Memref sig .tc .vmem S32x1x16x128 .f32) (harg1 : arg1.IsWhole) (arg2 : Memref sig .tc .vmem S32x32x16x128 .f32) (harg2 : arg2.IsWhole) (arg3 : Memref sig .tc .vmem S32x32x16x128 .f32) (harg3 : arg3.IsWhole) (arg4 : Memref sig .tc .vmem S32x256 .i32) (harg4 : arg4.IsWhole) (arg5 : Memref sig .tc .vmem S32x1 .i32) (harg5 : arg5.IsWhole) (arg6 : Memref sig .tc .vmem S32x1x16x128 .f32) (harg6 : arg6.IsWhole)
    (bt : Vec F S32x256 .i32) (ln : Vec F S32x1 .i32)
    (q : Vec F S32x1x16x128 .f32) (k v : Vec F S32x32x16x128 .f32)
    (M L : Vec F S32x16 .f32) (A : Vec F S32x2048 .f32) (T : Vec F S32x256 .i32)

variable (B : Sent F) (K : Dev nD × Fin 19 → ℕ) (W : Waits sig Unit)

attribute [local sl_rounds] duties_send duties_recv amount_send amount_recv payload_send payload_recv expect_send expect_recv amt_0 amt_1 amt_2 sendPay_0 sendPay_1 sendPay_2 recvPay_0 recvPay_1 recvPay_2 po_pe

set_option maxRecDepth 16384 in
set_option sl_exec.resultNames true in
set_option maxHeartbeats 0 in
theorem part26_last (h2 : k0_cond2 i = 1#1) (hO : B.o c = k0_pay5 A) (hM : B.m c = M) (hL : B.l c = L) (fo : Vec F S32x2048 .bf16) (fw : Buf (Elt F) (arg6.view.loc (c : Thread nD τ))) :
    (iprop(exKit B K c ∗ owes (c : Thread nD τ) (Oarr c) W
      ∗ slotsAny (pe c 0) 0 ∗ slotsAny (pe c 1) 1 ∗ slotsAny (pe c 2) 2
      ∗ (oB.view.loc (c : Thread nD τ) ↦{fullShare} fo)
      ∗ (mB.view.loc (c : Thread nD τ) ↦{fullShare} mB.view.rep M)
      ∗ (lB.view.loc (c : Thread nD τ) ↦{fullShare} lB.view.rep L)
      ∗ (aB.view.loc (c : Thread nD τ) ↦{fullShare} aB.view.rep A)
      ∗ (arg6.view.loc (c : Thread nD τ) ↦[arg6.view.set]{fullShare} fw)) : sProp 𝕄)
    ⊢ wp frame (wpE (defs₀ (F := F)) 𝒱₀ (c : Thread nD τ) none) Set.univ
        (k0_part26 i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (cx c) (cy c) (cz c) h2)
        (fun r => iprop(⌜k0_pay1 r = wStored (B.m c) (B.l c) A (stack fun d => B.m (po c d)) (stack fun d => B.l (po c d)) (stack fun d => B.o (po c d)) mB lB aB mbB lbB obB 15⌝
          ∗ (arg6.view.loc (c : Thread nD τ) ↦[arg6.view.set]{fullShare} arg6.view.writes (Elt F) fw
              (storesW (B.m c) (B.l c) A (stack fun d => B.m (po c d)) (stack fun d => B.l (po c d)) (stack fun d => B.o (po c d)) [14, 13, 12, 11, 10, 9, 8, 7, 6, 5, 4, 3, 2, 1, 0]))
          ∗ (∃ W', owes (c : Thread nD τ) 0 W')
          ∗ (oB.view.loc (c : Thread nD τ) ↦{fullShare} oB.view.rep (B.o c))
          ∗ (mB.view.loc (c : Thread nD τ) ↦{fullShare} mB.view.rep (B.m c))
          ∗ (lB.view.loc (c : Thread nD τ) ↦{fullShare} lB.view.rep (B.l c))
          ∗ (aB.view.loc (c : Thread nD τ) ↦{fullShare} aB.view.rep A)
          ∗ (obB.view.loc (c : Thread nD τ) ↦{fullShare} obB.view.rep (stack fun d => B.o (po c d)))
          ∗ (mbB.view.loc (c : Thread nD τ) ↦{fullShare} mbB.view.rep (stack fun d => B.m (po c d)))
          ∗ (lbB.view.loc (c : Thread nD τ) ↦{fullShare} lbB.view.rep (stack fun d => B.l (po c d)))
          ∗ exDone c : sProp 𝕄)) := by
  have e4 := fun h => Fin.ext (a := (⟨k0_dev4 c, h⟩ : Dev nD)) (devs c).2.2.2.1
  have e5 := fun h => Fin.ext (a := (⟨k0_dev5 c, h⟩ : Dev nD)) (devs c).2.2.2.2.1
  have e6 := fun h => Fin.ext (a := (⟨k0_dev6 c, h⟩ : Dev nD)) (devs c).2.2.2.2.2.1
  have e7 := fun h => Fin.ext (a := (⟨k0_dev7 c, h⟩ : Dev nD)) (devs c).2.2.2.2.2.2.1
  have e8 := fun h => Fin.ext (a := (⟨k0_dev8 c, h⟩ : Dev nD)) (devs c).2.2.2.2.2.2.2.1
  have e9 := fun h => Fin.ext (a := (⟨k0_dev9 c, h⟩ : Dev nD)) (devs c).2.2.2.2.2.2.2.2.1
  have e10 := fun h => Fin.ext (a := (⟨k0_dev10 c, h⟩ : Dev nD)) (devs c).2.2.2.2.2.2.2.2.2.1
  have e11 := fun h => Fin.ext (a := (⟨k0_dev11 c, h⟩ : Dev nD)) (devs c).2.2.2.2.2.2.2.2.2.2.1
  have e12 := fun h => Fin.ext (a := (⟨k0_dev12 c, h⟩ : Dev nD)) (devs c).2.2.2.2.2.2.2.2.2.2.2
  istart
  unfold exKit pairKit slotsAny
  rw [Oarr_eq, amt_0, amt_1, amt_2]
  iintro ⟨⟨#Hlv, ⟨#Is00, #Ir00, #Ip00, #Rs00, #Rp00, Ds00, Dp00, As00, Ar00, C00⟩, ⟨#Is01, #Ir01, #Ip01, #Rs01, #Rp01, Ds01, Dp01, As01, Ar01, C01⟩, ⟨#Is02, #Ir02, #Ip02, #Rs02, #Rp02, Ds02, Dp02, As02, Ar02, C02⟩, ⟨#Is10, #Ir10, #Ip10, #Rs10, #Rp10, Ds10, Dp10, As10, Ar10, C10⟩, ⟨#Is11, #Ir11, #Ip11, #Rs11, #Rp11, Ds11, Dp11, As11, Ar11, C11⟩, ⟨#Is12, #Ir12, #Ip12, #Rs12, #Rp12, Ds12, Dp12, As12, Ar12, C12⟩, ⟨#Is20, #Ir20, #Ip20, #Rs20, #Rp20, Ds20, Dp20, As20, Ar20, C20⟩, ⟨#Is21, #Ir21, #Ip21, #Rs21, #Rp21, Ds21, Dp21, As21, Ar21, C21⟩, ⟨#Is22, #Ir22, #Ip22, #Rs22, #Rp22, Ds22, Dp22, As22, Ar22, C22⟩⟩, HO, ⟨⟨%so0, Ho0⟩, ⟨%sm0, Hm0⟩, ⟨%sl0, Hl0⟩⟩, ⟨⟨%so1, Ho1⟩, ⟨%sm1, Hm1⟩, ⟨%sl1, Hl1⟩⟩, ⟨⟨%so2, Ho2⟩, ⟨%sm2, Hm2⟩, ⟨%sl2, Hl2⟩⟩, HB, Hm, Hl, Ha, Hw⟩
  sl_exec_parts
  have h708 : part26_last.sl.v708 (F := F) A = k0_pay5 A := by
    unfold part26_last.sl.v708 part26_last.sl.v705
    rw [View.readAt_rep_full aB.view A _]
    rfl
  rw [h708]
  ihave HB := (store_to_rep oB (View.set_whole _) c fo _ (k0_pay5 A)) $$ HB
  rw [← hO, ← hM, ← hL]
  ihave HB := (pointsTo_thirds fullShare _).1 $$ HB
  icases HB with ⟨HB0, HB1, HB2⟩
  ihave Hm := (pointsTo_thirds fullShare _).1 $$ Hm
  icases Hm with ⟨HM0, HM1, HM2⟩
  ihave Hl := (pointsTo_thirds fullShare _).1 $$ Hl
  icases Hl with ⟨HL0, HL1, HL2⟩
  set_option sl_exec.stopBefore "k0_part13" in sl_exec_parts
  ihave HB := (thirds_oB B c) $$ [As00_pay1 As10_pay1 As20_pay1]
  · isplitl [As00_pay1]; · iexact As00_pay1
    isplitl [As10_pay1]; · iexact As10_pay1
    iexact As20_pay1
  ihave Hm := (thirds_mB B c) $$ [As01_pay1 As11_pay1 As21_pay1]
  · isplitl [As01_pay1]; · iexact As01_pay1
    isplitl [As11_pay1]; · iexact As11_pay1
    iexact As21_pay1
  ihave Hl := (thirds_lB B c) $$ [As02_pay1 As12_pay1 As22_pay1]
  · isplitl [As02_pay1]; · iexact As02_pay1
    isplitl [As12_pay1]; · iexact As12_pay1
    iexact As22_pay1
  ihave Go := (landed_slotO B c _ _ _) $$ [Ar00_pay1 Ar10_pay1 Ar20_pay1]
  · isplitl [Ar00_pay1]; · iexact Ar00_pay1
    isplitl [Ar10_pay1]; · iexact Ar10_pay1
    iexact Ar20_pay1
  ihave Gm := (landed_slotM B c _ _ _) $$ [Ar01_pay1 Ar11_pay1 Ar21_pay1]
  · isplitl [Ar01_pay1]; · iexact Ar01_pay1
    isplitl [Ar11_pay1]; · iexact Ar11_pay1
    iexact Ar21_pay1
  ihave Gl := (landed_slotL B c _ _ _) $$ [Ar02_pay1 Ar12_pay1 Ar22_pay1]
  · isplitl [Ar02_pay1]; · iexact Ar02_pay1
    isplitl [Ar12_pay1]; · iexact Ar12_pay1
    iexact Ar22_pay1
  sl_exec_parts
  sl_step
  isplitr
  · ipureintro; rfl
  isplitl [Hw]; · iexact Hw
  isplitl [HO]; · iexists _; iexact HO
  isplitl [HB]; · iexact HB
  isplitl [Hm]; · iexact Hm
  isplitl [Hl]; · iexact Hl
  isplitl [Ha]; · iexact Ha
  isplitl [Go]; · iexact Go
  isplitl [Gm]; · iexact Gm
  isplitl [Gl]; · iexact Gl
  unfold exDone pairDone
  isplitl [As00 Ar00]
  · isplitl [As00]; · iexact As00
    iexact Ar00
  isplitl [As01 Ar01]
  · isplitl [As01]; · iexact As01
    iexact Ar01
  isplitl [As02 Ar02]
  · isplitl [As02]; · iexact As02
    iexact Ar02
  isplitl [As10 Ar10]
  · isplitl [As10]; · iexact As10
    iexact Ar10
  isplitl [As11 Ar11]
  · isplitl [As11]; · iexact As11
    iexact Ar11
  isplitl [As12 Ar12]
  · isplitl [As12]; · iexact As12
    iexact Ar12
  isplitl [As20 Ar20]
  · isplitl [As20]; · iexact As20
    iexact Ar20
  isplitl [As21 Ar21]
  · isplitl [As21]; · iexact As21
    iexact Ar21
  · isplitl [As22]; · iexact As22
    iexact Ar22

end Args
end Cert.Paged
-- ==== Proof.Bodies.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.First
public import Idealize.ShloMosaic.Lib.Ring.Trips
public import proofs.«01_k».proof.Proof.Exchange

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F] [Named F]

local notation "𝕄" => MT nD τ sig Unit (Elt F) ℕ UU ℕ

/-! # The body at the three kinds of grid points -/

section Args
variable (c : Dev nD) (i : grid0.Coords)
    (arg1 : Memref sig .tc .vmem S32x1x16x128 .f32) (harg1 : arg1.IsWhole) (arg2 : Memref sig .tc .vmem S32x32x16x128 .f32) (harg2 : arg2.IsWhole) (arg3 : Memref sig .tc .vmem S32x32x16x128 .f32) (harg3 : arg3.IsWhole) (arg4 : Memref sig .tc .vmem S32x256 .i32) (harg4 : arg4.IsWhole) (arg5 : Memref sig .tc .vmem S32x1 .i32) (harg5 : arg5.IsWhole) (arg6 : Memref sig .tc .vmem S32x1x16x128 .f32) (harg6 : arg6.IsWhole)
    (bt : Vec F S32x256 .i32) (ln : Vec F S32x1 .i32)
    (q : Vec F S32x1x16x128 .f32) (k v : Vec F S32x32x16x128 .f32)
    (M L : Vec F S32x16 .f32) (A : Vec F S32x2048 .f32) (T : Vec F S32x256 .i32)
variable (B : Sent F) (K : Dev nD × Fin 19 → ℕ) (W : Waits sig Unit)

set_option maxRecDepth 16384 in
set_option sl_exec.resultNames true in
set_option maxHeartbeats 0 in
/-- A point that is neither the first nor the last: one step of every head. -/
theorem body_mid (hc1 : ¬ k0_cond1 i = 1#1) (hc2 : ¬ k0_cond2 i = 1#1) :
    (iprop((arg1.view.loc (c : Thread nD τ) ↦[arg1.view.set]{fullShare} arg1.view.rep q)
      ∗ (arg2.view.loc (c : Thread nD τ) ↦[arg2.view.set]{fullShare} arg2.view.rep k)
      ∗ (arg3.view.loc (c : Thread nD τ) ↦[arg3.view.set]{fullShare} arg3.view.rep v)
      ∗ (mB.view.loc (c : Thread nD τ) ↦{fullShare} mB.view.rep M)
      ∗ (lB.view.loc (c : Thread nD τ) ↦{fullShare} lB.view.rep L)
      ∗ (aB.view.loc (c : Thread nD τ) ↦{fullShare} aB.view.rep A)
      ∗ (tB.view.loc (c : Thread nD τ) ↦{fullShare} tB.view.rep T)) : sProp 𝕄)
    ⊢ wp frame (wpE (defs₀ (F := F)) 𝒱₀ (c : Thread nD τ) none) Set.univ
        (cc0__body i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)
        (fun _ : PUnit => (iprop((arg1.view.loc (c : Thread nD τ) ↦[arg1.view.set]{fullShare} arg1.view.rep q)
      ∗ (arg2.view.loc (c : Thread nD τ) ↦[arg2.view.set]{fullShare} arg2.view.rep k)
      ∗ (arg3.view.loc (c : Thread nD τ) ↦[arg3.view.set]{fullShare} arg3.view.rep v)
      ∗ (mB.view.loc (c : Thread nD τ) ↦{fullShare} mB.view.rep (newM q k M))
      ∗ (lB.view.loc (c : Thread nD τ) ↦{fullShare} lB.view.rep (newL i c q k M L T))
      ∗ (aB.view.loc (c : Thread nD τ) ↦{fullShare} aB.view.rep (newA i c q k v M A T))
      ∗ (tB.view.loc (c : Thread nD τ) ↦{fullShare} tB.view.rep T)) : sProp 𝕄)) := by
  have hcut := part45_rest c i arg1 harg1 arg2 harg2 arg3 harg3 arg4 harg4 arg5 harg5 arg6 harg6 q k v M L A T hc1
  istart
  iintro ⟨Hq, Hk, Hv, Hm, Hl, Ha, Ht⟩
  sl_exec_parts
  cases hk0_part45_0
  sl_step
  isplitl [Hk0_part45_1]; · iexact Hk0_part45_1
  isplitl [Hk0_part45_2]; · iexact Hk0_part45_2
  isplitl [Hk0_part45_3]; · iexact Hk0_part45_3
  isplitl [Hk0_part45_4]; · iexact Hk0_part45_4
  isplitl [Hk0_part45_5]; · iexact Hk0_part45_5
  isplitl [Hk0_part45_6]; · iexact Hk0_part45_6
  iexact Hk0_part45_7

set_option maxRecDepth 16384 in
set_option sl_exec.resultNames true in
set_option maxHeartbeats 0 in
/-- The first point: the barrier, the starting values, then one step of every head. -/
theorem body_first (hc1 : k0_cond1 i = 1#1) (hc2 : ¬ k0_cond2 i = 1#1) (fm : Vec F S32x16 .f32) (fl : Vec F S32x16 .f32) (fa : Vec F S32x2048 .f32) (ft : Vec F S32x256 .i32) :
    (iprop(barKit B K c
      ∗ owes (c : Thread nD τ) (Oarr c + tallyAt (barCell (pe c 0)) () 1 + tallyAt (barCell (pe c 1)) () 1 + tallyAt (barCell (pe c 2)) () 1) W
      ∗ (arg1.view.loc (c : Thread nD τ) ↦[arg1.view.set]{fullShare} arg1.view.rep q)
      ∗ (arg2.view.loc (c : Thread nD τ) ↦[arg2.view.set]{fullShare} arg2.view.rep k)
      ∗ (arg3.view.loc (c : Thread nD τ) ↦[arg3.view.set]{fullShare} arg3.view.rep v)
      ∗ (arg4.view.loc (c : Thread nD τ) ↦[arg4.view.set]{fullShare} arg4.view.rep bt)
      ∗ (arg5.view.loc (c : Thread nD τ) ↦[arg5.view.set]{fullShare} arg5.view.rep ln)
      ∗ (mB.view.loc (c : Thread nD τ) ↦{fullShare} fm)
      ∗ (lB.view.loc (c : Thread nD τ) ↦{fullShare} fl)
      ∗ (aB.view.loc (c : Thread nD τ) ↦{fullShare} fa)
      ∗ (tB.view.loc (c : Thread nD τ) ↦{fullShare} ft)) : sProp 𝕄)
    ⊢ wp frame (wpE (defs₀ (F := F)) 𝒱₀ (c : Thread nD τ) none) Set.univ
        (cc0__body i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)
        (fun _ : PUnit => (iprop((arg1.view.loc (c : Thread nD τ) ↦[arg1.view.set]{fullShare} arg1.view.rep q)
      ∗ (arg2.view.loc (c : Thread nD τ) ↦[arg2.view.set]{fullShare} arg2.view.rep k)
      ∗ (arg3.view.loc (c : Thread nD τ) ↦[arg3.view.set]{fullShare} arg3.view.rep v)
      ∗ (arg4.view.loc (c : Thread nD τ) ↦[arg4.view.set]{fullShare} arg4.view.rep bt)
      ∗ (arg5.view.loc (c : Thread nD τ) ↦[arg5.view.set]{fullShare} arg5.view.rep ln)
      ∗ (mB.view.loc (c : Thread nD τ) ↦{fullShare} mB.view.rep (newM q k (k0_pay2 (F := F))))
      ∗ (lB.view.loc (c : Thread nD τ) ↦{fullShare} lB.view.rep (newL i c q k (k0_pay2 (F := F)) (k0_pay3 (F := F)) (initT bt ln)))
      ∗ (aB.view.loc (c : Thread nD τ) ↦{fullShare} aB.view.rep (newA i c q k v (k0_pay2 (F := F)) (k0_pay4 (F := F)) (initT bt ln)))
      ∗ (tB.view.loc (c : Thread nD τ) ↦{fullShare} tB.view.rep (initT bt ln))
      ∗ (∃ W', owes (c : Thread nD τ) (Oarr c) W') ∗ barDone c) : sProp 𝕄)) := by
  have hcut := part45_first c i arg1 harg1 arg2 harg2 arg3 harg3 arg4 harg4 arg5 harg5 arg6 harg6 bt ln q k v B K W hc1 fm fl fa ft
  istart
  iintro ⟨Hkit, HO, Hq, Hk, Hv, Hbt, Hln, Hm, Hl, Ha, Ht⟩
  sl_exec_parts
  cases hk0_part45_0
  sl_step
  isplitl [Hk0_part45_1]; · iexact Hk0_part45_1
  isplitl [Hk0_part45_2]; · iexact Hk0_part45_2
  isplitl [Hk0_part45_3]; · iexact Hk0_part45_3
  isplitl [Hk0_part45_4]; · iexact Hk0_part45_4
  isplitl [Hk0_part45_5]; · iexact Hk0_part45_5
  isplitl [Hk0_part45_6]; · iexact Hk0_part45_6
  isplitl [Hk0_part45_7]; · iexact Hk0_part45_7
  isplitl [Hk0_part45_8]; · iexact Hk0_part45_8
  isplitl [Hk0_part45_9]; · iexact Hk0_part45_9
  isplitl [Hk0_part45_10]; · iexists _; iexact Hk0_part45_10
  iexact Hk0_part45_11

/-- The slots the barrier brought, sorted by the copy that fills them. -/
theorem barDone_slots : barDone (F := F) c ⊢ iprop(atPos ER (barCell c) 1 ∅ 0 ∗ slotsAny (pe c 0) 0 ∗ slotsAny (pe c 1) 1 ∗ slotsAny (pe c 2) 2) := by
  have e0 : barPay (F := F) c 0 = slotsAny (pe c 2) 2 := rfl
  have e1 : barPay (F := F) c 1 = slotsAny (pe c 1) 1 := rfl
  have e2 : barPay (F := F) c 2 = slotsAny (pe c 0) 0 := rfl
  unfold barDone
  rw [bigSep_three, e0, e1, e2]
  iintro ⟨H, H0, H1, H2⟩
  isplitl [H]; · iexact H
  isplitl [H2]; · iexact H2
  isplitl [H1]; · iexact H1
  iexact H0

set_option maxRecDepth 16384 in
set_option sl_exec.resultNames true in
set_option maxHeartbeats 0 in
/-- The last point: one step of every head, then the exchange and the merge. -/
theorem body_last (hc1 : ¬ k0_cond1 i = 1#1) (hc2 : k0_cond2 i = 1#1) (hO : B.o c = k0_pay5 (newA i c q k v M A T)) (hM : B.m c = newM q k M) (hL : B.l c = newL i c q k M L T)
    (fo : Vec F S32x2048 .bf16) (fw : Buf (Elt F) (arg6.view.loc (c : Thread nD τ))) :
    (iprop(exKit B K c ∗ owes (c : Thread nD τ) (Oarr c) W
      ∗ slotsAny (pe c 0) 0 ∗ slotsAny (pe c 1) 1 ∗ slotsAny (pe c 2) 2
      ∗ (arg1.view.loc (c : Thread nD τ) ↦[arg1.view.set]{fullShare} arg1.view.rep q)
      ∗ (arg2.view.loc (c : Thread nD τ) ↦[arg2.view.set]{fullShare} arg2.view.rep k)
      ∗ (arg3.view.loc (c : Thread nD τ) ↦[arg3.view.set]{fullShare} arg3.view.rep v)
      ∗ (oB.view.loc (c : Thread nD τ) ↦{fullShare} fo)
      ∗ (mB.view.loc (c : Thread nD τ) ↦{fullShare} mB.view.rep M)
      ∗ (lB.view.loc (c : Thread nD τ) ↦{fullShare} lB.view.rep L)
      ∗ (aB.view.loc (c : Thread nD τ) ↦{fullShare} aB.view.rep A)
      ∗ (tB.view.loc (c : Thread nD τ) ↦{fullShare} tB.view.rep T)
      ∗ (arg6.view.loc (c : Thread nD τ) ↦[arg6.view.set]{fullShare} fw)) : sProp 𝕄)
    ⊢ wp frame (wpE (defs₀ (F := F)) 𝒱₀ (c : Thread nD τ) none) Set.univ
        (cc0__body i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9)
        (fun _ : PUnit => (iprop((arg1.view.loc (c : Thread nD τ) ↦[arg1.view.set]{fullShare} arg1.view.rep q)
      ∗ (arg2.view.loc (c : Thread nD τ) ↦[arg2.view.set]{fullShare} arg2.view.rep k)
      ∗ (arg3.view.loc (c : Thread nD τ) ↦[arg3.view.set]{fullShare} arg3.view.rep v)
      ∗ (arg6.view.loc (c : Thread nD τ) ↦[arg6.view.set]{fullShare} arg6.view.rep (merged (B.m c) (B.l c) (newA i c q k v M A T) (stack fun d => B.m (po c d)) (stack fun d => B.l (po c d)) (stack fun d => B.o (po c d))))
      ∗ (∃ W', owes (c : Thread nD τ) 0 W')
      ∗ (∃ f, oB.view.loc (c : Thread nD τ) ↦{fullShare} f)
      ∗ (∃ f, mB.view.loc (c : Thread nD τ) ↦{fullShare} f)
      ∗ (∃ f, lB.view.loc (c : Thread nD τ) ↦{fullShare} f)
      ∗ (∃ f, aB.view.loc (c : Thread nD τ) ↦{fullShare} f)
      ∗ (∃ f, tB.view.loc (c : Thread nD τ) ↦{fullShare} f)
      ∗ (∃ f, obB.view.loc (c : Thread nD τ) ↦{fullShare} f)
      ∗ (∃ f, mbB.view.loc (c : Thread nD τ) ↦{fullShare} f)
      ∗ (∃ f, lbB.view.loc (c : Thread nD τ) ↦{fullShare} f)
      ∗ exDone c) : sProp 𝕄)) := by
  have hcut := part45_rest c i arg1 harg1 arg2 harg2 arg3 harg3 arg4 harg4 arg5 harg5 arg6 harg6 q k v M L A T hc1
  istart
  iintro ⟨Hkit, HO, HS0, HS1, HS2, Hq, Hk, Hv, Ho, Hm, Hl, Ha, Ht, Hw⟩
  set_option sl_exec.stopBefore "k0_part26" in sl_exec_parts
  cases hk0_part45_0
  have hcut2 := part26_last c i arg1 harg1 arg2 harg2 arg3 harg3 arg4 harg4 arg5 harg5 arg6 harg6 (newM q k M) (newL i c q k M L T) (newA i c q k v M A T) B K W hc2 hO hM hL fo fw
  sl_exec_parts
  sl_step
  rw [hk0_part26_0]
  isplitl [Hk0_part45_1]; · iexact Hk0_part45_1
  isplitl [Hk0_part45_2]; · iexact Hk0_part45_2
  isplitl [Hk0_part45_3]; · iexact Hk0_part45_3
  isplitl [Hk0_part26_1]
  · iapply (out_to_rep arg6 c fw (B.m c) (B.l c) (newA i c q k v M A T) (stack fun d => B.m (po c d)) (stack fun d => B.l (po c d)) (stack fun d => B.o (po c d)))
    iexact Hk0_part26_1
  isplitl [Hk0_part26_2]; · iexists _; iexact Hk0_part26_2
  isplitl [Hk0_part26_3]; · iexists _; iexact Hk0_part26_3
  isplitl [Hk0_part26_4]; · iexists _; iexact Hk0_part26_4
  isplitl [Hk0_part26_5]; · iexists _; iexact Hk0_part26_5
  isplitl [Hk0_part26_6]; · iexists _; iexact Hk0_part26_6
  isplitl [Hk0_part45_7]; · iexists _; iexact Hk0_part45_7
  isplitl [Hk0_part26_7]; · iexists _; iexact Hk0_part26_7
  isplitl [Hk0_part26_8]; · iexists _; iexact Hk0_part26_8
  isplitl [Hk0_part26_9]; · iexists _; iexact Hk0_part26_9
  iexact Hk0_part26_10

end Args
end Cert.Paged
-- ==== Proof.Grid.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.First
public import Idealize.ShloMosaic.Lib.Ring.Trips
public import Idealize.ShloMosaic.Lib.Pipeline.TableIdle
public import proofs.«01_k».proof.Proof.Bodies
public import proofs.«01_k».proof.Proof.Gen.KernelIdeal.Frame

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F] [Named F]

local notation "𝕄" => MT nD τ sig Unit (Elt F) ℕ UU ℕ

/-! # The grid: what holds before each point, and the body at every point -/

variable (m : (ℓ : Loc nD τ sig) → Buf (Elt F) ℓ) (ρ : Dev nD → PrngReg)

/-- Grid point `n`. -/
def pt (n : ℕ) : Fin cfg0.N := ⟨n % 8, by rw [show cfg0.N = 8 from N_0]; exact Nat.mod_lt _ (by decide)⟩

theorem pt_val (t : Fin cfg0.N) : pt t.val = t :=
  Fin.ext (Nat.mod_eq_of_lt (t.isLt.trans_le (le_of_eq N_0)))

/-- The blocks device `c`'s body reads: the queries, one step's keys and values, the page table and the lengths. -/
def qB (c : Dev nD) : Vec F S32x1x16x128 .f32 := iblk m c 0 (pt 0)
def kB (c : Dev nD) (n : ℕ) : Vec F S32x32x16x128 .f32 := iblk m c 1 (pt n)
def vB (c : Dev nD) (n : ℕ) : Vec F S32x32x16x128 .f32 := iblk m c 2 (pt n)
def btB (c : Dev nD) : Vec F S32x256 .i32 := iblk m c 3 (pt 0)
def lnB (c : Dev nD) : Vec F S32x1 .i32 := iblk m c 4 (pt 0)

/-- The page table as the first point leaves it. -/
def tabB (c : Dev nD) : Vec F S32x256 .i32 := initT (btB m c) (lnB m c)

/-- The row maxima, the row sums and the accumulator after `n` points. -/
def stM (c : Dev nD) : ℕ → Vec F S32x16 .f32
  | 0 => k0_pay2
  | n + 1 => newM (qB m c) (kB m c n) (stM c n)
def stL (c : Dev nD) : ℕ → Vec F S32x16 .f32
  | 0 => k0_pay3
  | n + 1 => newL (grid0.coords (pt n)) c (qB m c) (kB m c n) (stM m c n) (stL c n) (tabB m c)
def stA (c : Dev nD) : ℕ → Vec F S32x2048 .f32
  | 0 => k0_pay4
  | n + 1 => newA (grid0.coords (pt n)) c (qB m c) (kB m c n) (vB m c n) (stM m c n) (stA c n) (tabB m c)

/-- What every device sends its peers. -/
def sent : Sent F where
  o c := k0_pay5 (stA m c 8)
  m c := stM m c 8
  l c := stL m c 8

/-- Device `c`'s result. -/
def outC (c : Dev nD) : Vec F S32x1x16x128 .f32 :=
  merged (stM m c 8) (stL m c 8) (stA m c 8) (stack fun d => stM m (po c d) 8) (stack fun d => stL m (po c d) 8) (stack fun d => k0_pay5 (stA m (po c d) 8))

/-! ## Cells by number -/

/-- A device's nineteen cells: the barrier, nine departures, nine arrivals. -/
abbrev csem (k : Fin 19) : SemLoc sig := if k = 0 then .reg barS else .dma ⟨7 + k.val, show _ < 26 by omega⟩
abbrev kcell (ck : Dev nD × Fin 19) : GSem nD τ sig := ((ck.1 : Thread nD τ), csem ck.2)

/-- A device's cells' invariants, under the names `K`. -/
def ownInv (K : Dev nD × Fin 19 → ℕ) (c : Dev nD) : sProp 𝕄 :=
  bigSep Finset.univ fun k : Fin 19 => cellInv ER (Rd (sent m)) (K (c, k)) (kcell (c, k))

instance ownInv_persistent (K : Dev nD × Fin 19 → ℕ) (c : Dev nD) : BI.Persistent (ownInv m K c) := by unfold ownInv; infer_instance

theorem bigSep_cells (Φ : Fin 19 → sProp 𝕄) : bigSep Finset.univ Φ
    = iprop(Φ 0 ∗ Φ 1 ∗ Φ 10 ∗ Φ 2 ∗ Φ 11 ∗ Φ 3 ∗ Φ 12 ∗ Φ 4 ∗ Φ 13 ∗ Φ 5 ∗ Φ 14 ∗ Φ 6 ∗ Φ 15 ∗ Φ 7 ∗ Φ 16 ∗ Φ 8 ∗ Φ 17 ∗ Φ 9 ∗ Φ 18) :=
  bigSep_univ_eq_bigSepL [0, 1, 10, 2, 11, 3, 12, 4, 13, 5, 14, 6, 15, 7, 16, 8, 17, 9, 18] (by decide) (by decide) Φ

/-- Every cell past its one round closes, its counter at zero. -/
theorem close_cells (K : Dev nD × Fin 19 → ℕ) (c : Dev nD) :
    iprop(ownInv m K c ∗ bigSep Finset.univ fun k : Fin 19 => atPos ER (kcell (c, k)) 1 ∅ 0)
      ⊢ |={Set.univ}=> (bigSep Finset.univ fun k : Fin 19 => semVal (kcell (c, k)) 0 : sProp 𝕄) := by
  unfold ownInv
  rw [← bigSep_sep']
  exact (bigSep_mono fun k _ => Rounds.cell_close ER (Rd (sent m)) (Set.mem_univ (K (c, k))) (fun h => h) (R := 1) (duties_later (sent m) _)).trans
    (bigSep_fupd _ _)

/-- The positions the barrier and the nine copies leave, together. -/
theorem done_cells (c : Dev nD) : iprop(atPos ER (barCell c) 1 ∅ 0 ∗ exDone (F := F) c)
    ⊢ (bigSep Finset.univ fun k : Fin 19 => atPos ER (kcell (c, k)) 1 ∅ 0 : sProp 𝕄) := by
  rw [bigSep_cells]
  unfold exDone pairDone
  iintro ⟨H, ⟨H1, H2⟩, ⟨H3, H4⟩, ⟨H5, H6⟩, ⟨H7, H8⟩, ⟨H9, H10⟩, ⟨H11, H12⟩, ⟨H13, H14⟩, ⟨H15, H16⟩, ⟨H17, H18⟩⟩
  isplitl [H]; · iexact H
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-! ## The invariant before each point -/

/-- Before the first point: the kits of the barrier and of the copies; the scratch buffers at any contents, the landing
    buffers among the barrier's kit. -/
def Φ₀ (c : Dev nD) : sProp 𝕄 :=
  iprop((∃ K, ownInv m K c ∗ barKit (sent m) K c ∗ exKit (sent m) K c)
    ∗ (∃ f, oB.view.loc (c : Thread nD τ) ↦{fullShare} f) ∗ (∃ f, mB.view.loc (c : Thread nD τ) ↦{fullShare} f)
    ∗ (∃ f, lB.view.loc (c : Thread nD τ) ↦{fullShare} f) ∗ (∃ f, aB.view.loc (c : Thread nD τ) ↦{fullShare} f)
    ∗ (∃ f, tB.view.loc (c : Thread nD τ) ↦{fullShare} f))

/-- Before point `n`, neither the first nor past the last: the running state in the scratch buffers. -/
def Φ₁ (c : Dev nD) (n : ℕ) : sProp 𝕄 :=
  iprop((∃ K, ownInv m K c ∗ exKit (sent m) K c) ∗ barDone c
    ∗ (∃ f, oB.view.loc (c : Thread nD τ) ↦{fullShare} f) ∗ (mB.view.loc (c : Thread nD τ) ↦{fullShare} mB.view.rep (stM m c n))
    ∗ (lB.view.loc (c : Thread nD τ) ↦{fullShare} lB.view.rep (stL m c n)) ∗ (aB.view.loc (c : Thread nD τ) ↦{fullShare} aB.view.rep (stA m c n))
    ∗ (tB.view.loc (c : Thread nD τ) ↦{fullShare} tB.view.rep (tabB m c)))

/-- After the last point: the scratch buffers at any contents, every cell closed. -/
def Φ₂ (c : Dev nD) : sProp 𝕄 :=
  iprop((∃ f, oB.view.loc (c : Thread nD τ) ↦{fullShare} f) ∗ (∃ f, mB.view.loc (c : Thread nD τ) ↦{fullShare} f)
    ∗ (∃ f, lB.view.loc (c : Thread nD τ) ↦{fullShare} f) ∗ (∃ f, aB.view.loc (c : Thread nD τ) ↦{fullShare} f)
    ∗ (∃ f, tB.view.loc (c : Thread nD τ) ↦{fullShare} f) ∗ (∃ f, obB.view.loc (c : Thread nD τ) ↦{fullShare} f)
    ∗ (∃ f, mbB.view.loc (c : Thread nD τ) ↦{fullShare} f) ∗ (∃ f, lbB.view.loc (c : Thread nD τ) ↦{fullShare} f)
    ∗ bigSep Finset.univ fun k : Fin 19 => semVal (kcell (c, k)) 0)

def ΦAt (c : Dev nD) (n : ℕ) : sProp 𝕄 := if n = 0 then Φ₀ m c else if n = 8 then Φ₂ c else Φ₁ m c n
def owedAt (c : Dev nD) (n : ℕ) : CellTallies nD τ sig Unit := if n = 0 then O₀ c else if n = 8 then 0 else Oarr c

/-- The proof data of the one pipeline. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outC m c
  Φ t := ΦAt m c t.val
  q _ := fullShare
  owed t := owedAt c t.val

section Before
variable (c : Dev nD) (t : Fin cfg0.N)
theorem before_0 (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf iblk; rfl)
theorem before_1 (d) : (dats m 0 c).before 1 t d = iblk m c 1 t :=
  ((dats m 0 c).before_in_eq_fetched 1 rfl (fun _ => rfl) (fun _ _ _ => rfl) (fun t => by unfold Dat.blockOf; rfl) t d).trans
    (by unfold Dat.fetched Dat.blockOf iblk; rfl)
theorem before_2 (d) : (dats m 0 c).before 2 t d = iblk m c 2 t :=
  ((dats m 0 c).before_in_eq_fetched 2 rfl (fun _ => rfl) (fun _ _ _ => rfl) (fun t => by unfold Dat.blockOf; rfl) t d).trans
    (by unfold Dat.fetched Dat.blockOf iblk; rfl)
theorem before_3 (d) : (dats m 0 c).before 3 t d = iblk m c 3 t :=
  ((dats m 0 c).before_in_eq_fetched 3 rfl (fun _ => rfl) (fun _ _ _ => rfl) (fun t => by unfold Dat.blockOf; rfl) t d).trans
    (by unfold Dat.fetched Dat.blockOf iblk; rfl)
theorem before_4 (d) : (dats m 0 c).before 4 t d = iblk m c 4 t :=
  ((dats m 0 c).before_in_eq_fetched 4 rfl (fun _ => rfl) (fun _ _ _ => rfl) (fun t => by unfold Dat.blockOf; rfl) t d).trans
    (by unfold Dat.fetched Dat.blockOf iblk; rfl)
end Before

/-- The constant windows hold the same block at every point. -/
theorem iblk_0 (c : Dev nD) (t : Fin cfg0.N) : iblk m c 0 t = qB m c := by
  obtain h | h | h | h | h | h | h | h := fin_N0 t <;> subst h <;> rfl
theorem iblk_3 (c : Dev nD) (t : Fin cfg0.N) : iblk m c 3 t = btB m c := by
  obtain h | h | h | h | h | h | h | h := fin_N0 t <;> subst h <;> rfl
theorem iblk_4 (c : Dev nD) (t : Fin cfg0.N) : iblk m c 4 t = lnB m c := by
  obtain h | h | h | h | h | h | h | h := fin_N0 t <;> subst h <;> rfl
theorem iblk_1 (c : Dev nD) (t : Fin cfg0.N) : iblk m c 1 t = kB m c t.val := by unfold kB; rw [pt_val]
theorem iblk_2 (c : Dev nD) (t : Fin cfg0.N) : iblk m c 2 t = vB m c t.val := by unfold vB; rw [pt_val]

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 7 := by decide +kernel
theorem idle_last : ∀ t : Fin cfg0.N, t.val = 7 → cfg0.idle 5 (cfg0.grid.coords t) = false := by decide +kernel
theorem idle_other : ∀ t : Fin cfg0.N, t.val ≠ 7 → cfg0.idle 5 (cfg0.grid.coords t) = true := by decide +kernel
theorem flush_other : ∀ t : Fin cfg0.N, t.val ≠ 7 → (cfg0.win 5).flush t = false := by decide +kernel

/-! ## The body obligation -/

abbrev pre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d)))

/-- What a point leaves of the result's window: its block at the last point, what it held before. -/
abbrev left5 (c : Dev nD) (t : Fin cfg0.N) : sProp 𝕄 :=
  match cfg0.idle 5 (cfg0.grid.coords t) with
  | true => match (cfg0.win 5).flush t with
    | false => iprop(∃ d, owns c (st0_5 t) fullShare ((dats m 0 c).before 5 t d))
    | true => owns c (st0_5 t) fullShare ((dats m 0 c).after 5 t)
  | false => owns c (st0_5 t) fullShare ((dats m 0 c).after 5 t)

abbrev post (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ left5 m c t)

theorem pick_held (P Q R : sProp 𝕄) : ∀ b f : Bool, b = true → f = false →
    (match b with | true => (match f with | false => P | true => Q) | false => R) = P := by rintro _ _ rfl rfl; rfl
theorem pick_new (P Q R : sProp 𝕄) : ∀ b f : Bool, b = false →
    (match b with | true => (match f with | false => P | true => Q) | false => R) = R := by rintro _ _ rfl; rfl

theorem left5_other (c : Dev nD) (t : Fin cfg0.N) (h : t.val ≠ 7) :
    left5 m c t = iprop(∃ d, owns c (st0_5 t) fullShare ((dats m 0 c).before 5 t d)) := by
  exact pick_held (F := F) _ _ _ _ _ (idle_other t h) (flush_other t h)
theorem left5_last (c : Dev nD) (t : Fin cfg0.N) (h : t.val = 7) :
    left5 m c t = owns c (st0_5 t) fullShare ((dats m 0 c).after 5 t) := by
  exact pick_new (F := F) _ _ _ _ _ (idle_last t h)

/-- The running state's equations at a point. -/
theorem coords_pt (t : Fin cfg0.N) : grid0.coords (pt t.val) = grid0.coords t := by rw [pt_val]

set_option maxHeartbeats 0 in
theorem at_mid (c : Dev nD) (t : Fin cfg0.N) (h0 : t.val ≠ 0) (h7 : t.val ≠ 7) :
    pre m c t ⊢ wp frame (wpE (defs₀ (F := F)) 𝒱₀ (c : Thread nD τ) none) Set.univ (bodyAt0 t) (fun _ : PUnit => post m c t) := by
  have hlt : t.val < 8 := t.isLt.trans_le (le_of_eq N_0)
  have hΦ : (dats m 0 c).Φ t.castSucc = Φ₁ m c t.val := by
    show ΦAt m c t.val = _; unfold ΦAt; rw [if_neg h0, if_neg (by omega)]
  have hΦ' : (dats m 0 c).Φ t.succ = Φ₁ m c (t.val + 1) := by
    show ΦAt m c (t.val + 1) = _; unfold ΦAt; rw [if_neg (by omega), if_neg (by omega)]
  have hO : (dats m 0 c).owed t.castSucc = Oarr c := by
    show owedAt c t.val = _; unfold owedAt; rw [if_neg h0, if_neg (by omega)]
  have hO' : (dats m 0 c).owed t.succ = Oarr c := by
    show owedAt c (t.val + 1) = _; unfold owedAt; rw [if_neg (by omega), if_neg (by omega)]
  have hm : stM m c (t.val + 1) = newM (iblk m c 0 t) (iblk m c 1 t) (stM m c t.val) := by rw [iblk_0, iblk_1]; rfl
  have hl : stL m c (t.val + 1) = newL (grid0.coords t) c (iblk m c 0 t) (iblk m c 1 t) (stM m c t.val) (stL m c t.val) (tabB m c) := by
    rw [iblk_0, iblk_1, ← coords_pt t]; rfl
  have ha : stA m c (t.val + 1) = newA (grid0.coords t) c (iblk m c 0 t) (iblk m c 1 t) (iblk m c 2 t) (stM m c t.val) (stA m c t.val) (tabB m c) := by
    rw [iblk_0, iblk_1, iblk_2, ← coords_pt t]; rfl
  unfold pre post Dat.owesAt
  rw [hΦ, hΦ', left5_other m c t h7, hO, hO']
  simp only [before_0, before_1, before_2, before_3, before_4]
  iintro ⟨HΦ, ⟨%W, %hW, HO⟩, ⟨%d0, H0⟩, ⟨%d1, H1⟩, ⟨%d2, H2⟩, ⟨%d3, H3⟩, ⟨%d4, H4⟩, H5⟩
  unfold Φ₁
  rw [hm, hl, ha]
  icases HΦ with ⟨HK, HB, HoB, Hm, Hl, Ha, Ht⟩
  iapply (wp_wand_r frame (wpE (defs₀ (F := F)) 𝒱₀ (c : Thread nD τ) none))
  isplitl [H0 H1 H2 Hm Hl Ha Ht]
  · iapply (body_mid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
      (iblk m c 0 t) (iblk m c 1 t) (iblk m c 2 t) (stM m c t.val) (stL m c t.val) (stA m c t.val) (tabB m c)
      (fun h => h0 ((cond1_iff t).mp h)) (fun h => h7 ((cond2_iff t).mp h)))
    simp only [owns_eq_rep]
    isplitl [H0]; · iexact H0
    isplitl [H1]; · iexact H1
    isplitl [H2]; · iexact H2
    isplitl [Hm]; · iexact Hm
    isplitl [Hl]; · iexact Hl
    isplitl [Ha]; · iexact Ha
    iexact Ht
  iintro %u ⟨H0, H1, H2, Hm, Hl, Ha, Ht⟩
  isplitl [HK HB HoB Hm Hl Ha Ht]
  · isplitl [HK]; · iexact HK
    isplitl [HB]; · iexact HB
    isplitl [HoB]; · iexact HoB
    isplitl [Hm]; · iexact Hm
    isplitl [Hl]; · iexact Hl
    isplitl [Ha]; · iexact Ha
    iexact Ht
  isplitl [HO]
  · iexists W
    isplitr; · ipureintro; exact fun _ _ => Or.inl trivial
    iexact HO
  simp only [owns_eq_rep]
  isplitl [H0]; · iexact H0
  isplitl [H1]; · iexact H1
  isplitl [H2]; · iexact H2
  isplitl [H3]; · iexact H3
  isplitl [H4]; · iexact H4
  iexact H5

set_option maxHeartbeats 0 in
theorem at_first (c : Dev nD) (t : Fin cfg0.N) (h0 : t.val = 0) :
    pre m c t ⊢ wp frame (wpE (defs₀ (F := F)) 𝒱₀ (c : Thread nD τ) none) Set.univ (bodyAt0 t) (fun _ : PUnit => post m c t) := by
  have h7 : t.val ≠ 7 := by omega
  have hΦ : (dats m 0 c).Φ t.castSucc = Φ₀ m c := by
    show ΦAt m c t.val = _; unfold ΦAt; rw [if_pos h0]
  have hΦ' : (dats m 0 c).Φ t.succ = Φ₁ m c 1 := by
    show ΦAt m c (t.val + 1) = _; unfold ΦAt; rw [h0, if_neg (by omega), if_neg (by omega)]
  have hO : (dats m 0 c).owed t.castSucc = O₀ c := by
    show owedAt c t.val = _; unfold owedAt; rw [if_pos h0]
  have hO' : (dats m 0 c).owed t.succ = Oarr c := by
    show owedAt c (t.val + 1) = _; unfold owedAt; rw [if_neg (by omega), if_neg (by omega)]
  have ek : kB m c 0 = iblk m c 1 t := by rw [iblk_1, h0]
  have ev : vB m c 0 = iblk m c 2 t := by rw [iblk_2, h0]
  have ep : grid0.coords (pt 0) = grid0.coords t := by rw [← coords_pt t, h0]
  have hT : tabB m c = initT (iblk m c 3 t) (iblk m c 4 t) := by rw [iblk_3, iblk_4]; rfl
  have hm : stM m c 1 = newM (iblk m c 0 t) (iblk m c 1 t) (k0_pay2 (F := F)) := by rw [iblk_0, ← ek]; rfl
  have hl : stL m c 1 = newL (grid0.coords t) c (iblk m c 0 t) (iblk m c 1 t) (k0_pay2 (F := F)) (k0_pay3 (F := F)) (initT (iblk m c 3 t) (iblk m c 4 t)) := by
    rw [iblk_0, ← ek, ← hT, ← ep]; rfl
  have ha : stA m c 1 = newA (grid0.coords t) c (iblk m c 0 t) (iblk m c 1 t) (iblk m c 2 t) (k0_pay2 (F := F)) (k0_pay4 (F := F)) (initT (iblk m c 3 t) (iblk m c 4 t)) := by
    rw [iblk_0, ← ek, ← ev, ← hT, ← ep]; rfl
  unfold pre post Dat.owesAt
  rw [hΦ, hΦ', left5_other m c t h7, hO, hO']
  simp only [before_0, before_1, before_2, before_3, before_4]
  iintro ⟨HΦ, ⟨%W, %hW, HO⟩, ⟨%d0, H0⟩, ⟨%d1, H1⟩, ⟨%d2, H2⟩, ⟨%d3, H3⟩, ⟨%d4, H4⟩, H5⟩
  unfold Φ₀ Φ₁
  rw [hm, hl, ha, hT]
  icases HΦ with ⟨⟨%K, HI, HB, HE⟩, HoB, ⟨%fm, Hm⟩, ⟨%fl, Hl⟩, ⟨%fa, Ha⟩, ⟨%ft, Ht⟩⟩
  iapply (wp_wand_r frame (wpE (defs₀ (F := F)) 𝒱₀ (c : Thread nD τ) none))
  isplitl [HB HO H0 H1 H2 H3 H4 Hm Hl Ha Ht]
  · iapply (body_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
      (iblk m c 3 t) (iblk m c 4 t) (iblk m c 0 t) (iblk m c 1 t) (iblk m c 2 t) (sent m) K W
      ((cond1_iff t).mpr h0) (fun h => h7 ((cond2_iff t).mp h)) fm fl fa ft)
    simp only [owns_eq_rep]
    isplitl [HB]; · iexact HB
    isplitl [HO]; · iexact HO
    isplitl [H0]; · iexact H0
    isplitl [H1]; · iexact H1
    isplitl [H2]; · iexact H2
    isplitl [H3]; · iexact H3
    isplitl [H4]; · iexact H4
    isplitl [Hm]; · iexact Hm
    isplitl [Hl]; · iexact Hl
    isplitl [Ha]; · iexact Ha
    iexact Ht
  iintro %u ⟨H0, H1, H2, H3, H4, Hm, Hl, Ha, Ht, ⟨%W', HO⟩, HB⟩
  isplitl [HI HE HB HoB Hm Hl Ha Ht]
  · isplitl [HI HE]
    · iexists K
      isplitl [HI]; · iexact HI
      iexact HE
    isplitl [HB]; · iexact HB
    isplitl [HoB]; · iexact HoB
    isplitl [Hm]; · iexact Hm
    isplitl [Hl]; · iexact Hl
    isplitl [Ha]; · iexact Ha
    iexact Ht
  isplitl [HO]
  · iexists W'
    isplitr; · ipureintro; exact fun _ _ => Or.inl trivial
    iexact HO
  simp only [owns_eq_rep]
  isplitl [H0]; · iexact H0
  isplitl [H1]; · iexact H1
  isplitl [H2]; · iexact H2
  isplitl [H3]; · iexact H3
  isplitl [H4]; · iexact H4
  iexact H5

set_option maxHeartbeats 0 in
theorem at_last (c : Dev nD) (t : Fin cfg0.N) (h7 : t.val = 7) :
    pre m c t ⊢ wp frame (wpE (defs₀ (F := F)) 𝒱₀ (c : Thread nD τ) none) Set.univ (bodyAt0 t) (fun _ : PUnit => post m c t) := by
  have h0 : t.val ≠ 0 := by omega
  have hΦ : (dats m 0 c).Φ t.castSucc = Φ₁ m c t.val := by
    show ΦAt m c t.val = _; unfold ΦAt; rw [if_neg h0, if_neg (by omega)]
  have hΦ' : (dats m 0 c).Φ t.succ = Φ₂ c := by
    show ΦAt m c (t.val + 1) = _; unfold ΦAt; rw [if_neg (by omega), if_pos (by omega)]
  have hO : (dats m 0 c).owed t.castSucc = Oarr c := by
    show owedAt c t.val = _; unfold owedAt; rw [if_neg h0, if_neg (by omega)]
  have hO' : (dats m 0 c).owed t.succ = 0 := by
    show owedAt c (t.val + 1) = _; unfold owedAt; rw [if_neg (by omega), if_pos (by omega)]
  have hm : stM m c 8 = newM (iblk m c 0 t) (iblk m c 1 t) (stM m c t.val) := by rw [iblk_0, iblk_1, h7]; rfl
  have hl : stL m c 8 = newL (grid0.coords t) c (iblk m c 0 t) (iblk m c 1 t) (stM m c t.val) (stL m c t.val) (tabB m c) := by
    rw [iblk_0, iblk_1, ← coords_pt t, h7]; rfl
  have ha : stA m c 8 = newA (grid0.coords t) c (iblk m c 0 t) (iblk m c 1 t) (iblk m c 2 t) (stM m c t.val) (stA m c t.val) (tabB m c) := by
    rw [iblk_0, iblk_1, iblk_2, ← coords_pt t, h7]; rfl
  have hout : (dats m 0 c).after 5 t = merged ((sent m).m c) ((sent m).l c) (newA (grid0.coords t) c (iblk m c 0 t) (iblk m c 1 t) (iblk m c 2 t) (stM m c t.val) (stA m c t.val) (tabB m c))
      (stack fun d => (sent m).m (po c d)) (stack fun d => (sent m).l (po c d)) (stack fun d => (sent m).o (po c d)) := by rw [← ha]; rfl
  unfold pre post Dat.owesAt
  rw [hΦ, hΦ', left5_last m c t h7, hO, hO', hout]
  simp only [before_0, before_1, before_2, before_3, before_4]
  iintro ⟨HΦ, ⟨%W, %hW, HO⟩, ⟨%d0, H0⟩, ⟨%d1, H1⟩, ⟨%d2, H2⟩, ⟨%d3, H3⟩, ⟨%d4, H4⟩, ⟨%d5, H5⟩⟩
  unfold Φ₁ Φ₂
  icases HΦ with ⟨⟨%K, #HI, HE⟩, HB, ⟨%fo, HoB⟩, Hm, Hl, Ha, Ht⟩
  ihave HB := (barDone_slots c) $$ HB
  icases HB with ⟨Hat, HS0, HS1, HS2⟩
  iapply (wp_fupd frame (wpE (defs₀ (F := F)) 𝒱₀ (c : Thread nD τ) none))
  iapply (wp_wand_r frame (wpE (defs₀ (F := F)) 𝒱₀ (c : Thread nD τ) none))
  isplitl [HE HO HS0 HS1 HS2 H0 H1 H2 HoB Hm Hl Ha Ht H5]
  · iapply (body_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
      (iblk m c 0 t) (iblk m c 1 t) (iblk m c 2 t) (stM m c t.val) (stL m c t.val) (stA m c t.val) (tabB m c) (sent m) K W
      (fun h => h0 ((cond1_iff t).mp h)) ((cond2_iff t).mpr h7) (congrArg k0_pay5 ha) hm hl fo ((st0_5 t).view.rep ((dats m 0 c).before 5 t d5)))
    simp only [owns_eq_rep]
    isplitl [HE]; · iexact HE
    isplitl [HO]; · iexact HO
    isplitl [HS0]; · iexact HS0
    isplitl [HS1]; · iexact HS1
    isplitl [HS2]; · iexact HS2
    isplitl [H0]; · iexact H0
    isplitl [H1]; · iexact H1
    isplitl [H2]; · iexact H2
    isplitl [HoB]; · iexact HoB
    isplitl [Hm]; · iexact Hm
    isplitl [Hl]; · iexact Hl
    isplitl [Ha]; · iexact Ha
    isplitl [Ht]; · iexact Ht
    iexact H5
  iintro %u ⟨H0, H1, H2, H5, ⟨%W', HO⟩, G0, G1, G2, G3, G4, G5, G6, G7, HD⟩
  ihave Hd := (done_cells c) $$ [Hat HD]
  · isplitl [Hat]; · iexact Hat
    iexact HD
  imod (close_cells m K c) $$ [Hd] with Hz
  · isplitr; · iexact HI
    iexact Hd
  imodintro
  isplitl [G0 G1 G2 G3 G4 G5 G6 G7 Hz]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact Hz
  isplitl [HO]
  · iexists W'
    isplitr; · ipureintro; exact fun _ _ => Or.inl trivial
    iexact HO
  simp only [owns_eq_rep]
  isplitl [H0]; · iexact H0
  isplitl [H1]; · iexact H1
  isplitl [H2]; · iexact H2
  isplitl [H3]; · iexact H3
  isplitl [H4]; · iexact H4
  iexact H5

set_option maxRecDepth 8000 in
/-- The body, at every point, keeps the invariant. -/
theorem body_obligation (c : Dev nD) : BodyObligation (dats (F := F) m 0 c) (defs₀ (F := F)) 𝒱₀ () Set.univ := fun t => by
  rw [bigSep_W0, bigSep_W0]
  show pre m c t ⊢ wp frame (wpE (defs₀ (F := F)) 𝒱₀ (c : Thread nD τ) none) Set.univ (bodyAt0 t) (fun _ : PUnit => post m c t)
  by_cases h0 : t.val = 0
  · exact at_first m c t h0
  by_cases h7 : t.val = 7
  · exact at_last m c t h7
  exact at_mid m c t h0 h7

end Cert.Paged
-- ==== Proof.Start.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.First
public import Idealize.ShloMosaic.Lib.Ring.Trips
public import Idealize.ShloMosaic.Lib.Pipeline.CollectiveSegs
public import proofs.«01_k».proof.Proof.Grid

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F] [Named F]

local notation "𝕄" => MT nD τ sig Unit (Elt F) ℕ UU ℕ

/-! # The launch: dealing the ghost state to the devices -/

variable (m : (ℓ : Loc nD τ sig) → Buf (Elt F) ℓ) (ρ : Dev nD → PrngReg)

/-- The semaphores of the kernel's own: departures and arrivals. -/
abbrev osem (k : Fin 18) : SemLoc sig := csem k.succ

theorem ownSemFacts : Pipeline.OwnSemFacts cfg0.spec osem := by decide +kernel

theorem share_eq (c : Dev nD) (w : Fin cfg0.W) : (dats m 0 c).share w = fullShare := by unfold Dat.share; split <;> rfl

theorem csem_injective : Function.Injective csem := by decide +kernel

theorem kcell_injective : Function.Injective (kcell : Dev nD × Fin 19 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A device's twenty-one duties: its barrier's three, then one of each departure and each arrival cell. -/
abbrev tk (j : Fin 21) : Fin 19 := ⟨j.val - 2, by omega⟩
abbrev td (j : Fin 21) : Fin 3 := if h : j.val < 3 then ⟨j.val, h⟩ else 0
abbrev tokOf (cj : Dev nD × Fin 21) : GSem nD τ sig × ℕ × Fin 3 := (kcell (cj.1, tk cj.2), 0, td cj.2)

theorem tk_td : ∀ j j' : Fin 21, tk j = tk j' → td j = td j' → j = j' := by decide +kernel
theorem tokOf_injective : Function.Injective tokOf := by
  rintro ⟨c, j⟩ ⟨c', j'⟩ h
  have h1 := kcell_injective (congrArg Prod.fst h)
  have h2 : td j = td j' := congrArg (fun x : GSem nD τ sig × ℕ × Fin 3 => x.2.2) h
  have h3 : j = j' := tk_td j j' (congrArg Prod.snd h1) h2
  have h4 : c = c' := congrArg Prod.fst h1
  rw [h3, h4]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 :=
  bigSep Finset.univ fun j : Fin 21 => dutyTok ER (kcell (c, tk j)) 0 (td j)

/-- What the launch element deals device `c`. -/
def G (c : Dev nD) : sProp 𝕄 :=
  iprop((bigSep Finset.univ fun k : Fin 19 => roundState ER (Rd (sent m)) (kcell (c, k)) 0)
    ∗ (bigSep Finset.univ fun k : Fin 19 => iprop(atPos ER (kcell (c, k)) 0 ∅ 0 ∗ reached ER (kcell (c, k)) 0)) ∗ toks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 19 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd (sent m)) allCells allToks) $$ HX with ⟨Hst, Hr, Hat, Htok⟩
  imodintro
  ihave Hst' := (Entails.of_eq (hX fun g => roundState ER (Rd (sent m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-- A family over the nineteen cells: the barrier's member, then the other eighteen. -/
theorem cells_split (Φ : Fin 19 → sProp 𝕄) : bigSep Finset.univ Φ = iprop(Φ 0 ∗ bigSep Finset.univ fun k : Fin 18 => Φ k.succ) := by
  have h : (Finset.univ : Finset (Fin 19)) = insert 0 (Finset.univ.map (Fin.succEmb 18)) := by decide
  rw [h, bigSep_insert (by decide), bigSep_map]; rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    (bigSep Finset.univ fun k : Fin 19 => semVal (kcell (c, k)) 0 : sProp 𝕄)
      = iprop(unscopedSems0 c ∗ Pipeline.ownSems0 (Ix := Unit) (Name := ℕ) (U := UU) (Lvl := ℕ) (Val := Elt F) (τ := τ) osem c) := by
  rw [cells_split, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (sent m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus]; · iexact Hus
    iexact Hos
  imod (show iprop((bigSep Finset.univ fun k : Fin 19 => semVal (kcell (c, k)) 0) ∗ bigSep Finset.univ fun k : Fin 19 => roundState ER (Rd (sent m)) (kcell (c, k)) 0)
      ⊢ (|={Set.univ}=> bigSep Finset.univ fun k => iprop(∃ κ : ℕ, cellInv ER (Rd (sent m)) κ (kcell (c, k))) : sProp 𝕄) from by
        rw [← bigSep_sep']
        exact (bigSep_mono fun k _ => (Rounds.body_intro ER (Rd (sent m)) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- Every cell's invariant, and that its round 0 has begun. -/
def records (K : Dev nD × Fin 19 → ℕ) : sProp 𝕄 :=
  iprop((bigSep Finset.univ fun ck : Dev nD × Fin 19 => cellInv ER (Rd (sent m)) (K ck) (kcell ck))
    ∗ bigSep Finset.univ fun ck : Dev nD × Fin 19 => reached ER (kcell ck) 0)

instance records_persistent (K : Dev nD × Fin 19 → ℕ) : BI.Persistent (records m K) := by unfold records; infer_instance

theorem inv_at (K : Dev nD × Fin 19 → ℕ) (ck : Dev nD × Fin 19) : records m K ⊢ cellInv ER (Rd (sent m)) (K ck) (kcell ck) := by
  unfold records
  exact (BI.sep_and.trans BI.and_elimL).trans (bigSep_elim (Finset.mem_univ ck))
theorem reached_at (K : Dev nD × Fin 19 → ℕ) (ck : Dev nD × Fin 19) : records m K ⊢ reached ER (kcell ck) 0 := by
  unfold records
  exact (BI.sep_and.trans BI.and_elimR).trans (bigSep_elim (Finset.mem_univ ck))

/-- One place along the line, as a permutation of the devices. -/
def peE (d : Fin 3) : Dev nD ≃ Dev nD where
  toFun c := pe c d
  invFun c := po c d
  left_inv c := po_pe c d
  right_inv c := pe_po c d

/-- Whose cell device `c`'s duty `j` pays: a peer's barrier, its own departure cells, a peer's arrival cells. -/
abbrev payE (j : Fin 21) : Dev nD ≃ Dev nD :=
  if h : j.val < 3 then peE ⟨j.val, h⟩ else if j.val < 12 then Equiv.refl _ else peE (third ((j.val - 12) / 3))

/-- The tokens of the duties device `c` pays. -/
def payToks (c : Dev nD) : sProp 𝕄 :=
  bigSep Finset.univ fun j : Fin 21 => dutyTok ER (kcell (payE j c, tk j)) 0 (td j)

theorem toks_around : (bigSep Finset.univ fun c : Dev nD => (toks c : sProp 𝕄)) = bigSep Finset.univ fun c : Dev nD => payToks c := by
  unfold toks payToks
  rw [bigSep_univ_comm, bigSep_univ_comm (fun (c : Dev nD) (j : Fin 21) => (dutyTok ER (kcell (payE j c, tk j)) 0 (td j) : sProp 𝕄))]
  exact bigSep_congr fun j _ => bigSep_univ_equiv (payE j) (fun c : Dev nD => (dutyTok ER (kcell (c, tk j)) 0 (td j) : sProp 𝕄))

/-- A device's share: the records, its positions, the tokens it pays with. -/
def G' (c : Dev nD) : sProp 𝕄 :=
  iprop(∃ K, records m K ∗ (bigSep Finset.univ fun k : Fin 19 => atPos ER (kcell (c, k)) 0 ∅ 0) ∗ payToks c)

theorem regroup :
    (bigSep Finset.univ fun c : Dev nD => iprop((bigSep Finset.univ fun k => iprop(∃ κ : ℕ, cellInv ER (Rd (sent m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (Rd (sent m)) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄)), toks_around]
  iintro ⟨HI, ⟨Hat, #HR⟩, Htok⟩
  ihave HK := (BI.bigSep_exists_pi Finset.univ (fun (ck : Dev nD × Fin 19) (κ : ℕ) => (cellInv ER (Rd (sent m)) κ (kcell ck) : sProp 𝕄))) $$ HI
  icases HK with ⟨%K, #HI⟩
  have key : iprop(records m K ∗ bigSep Finset.univ fun c : Dev nD => iprop((bigSep Finset.univ fun k : Fin 19 => (atPos ER (kcell (c, k)) 0 ∅ 0 : sProp 𝕄)) ∗ payToks c))
      ⊢ bigSep Finset.univ (G' m) := by
    refine (sep_mono_left (BI.bigSep_of_persistent (Finset.univ : Finset (Dev nD)) (records m K))).trans ?_
    rw [← bigSep_sep']
    refine bigSep_mono fun c _ => ?_
    refine (show iprop(records m K ∗ (bigSep Finset.univ fun k : Fin 19 => (atPos ER (kcell (c, k)) 0 ∅ 0 : sProp 𝕄)) ∗ payToks c) ⊢ G' m c from ?_)
    unfold G'
    iintro H
    iexists K
    iexact H
  iapply key
  isplitr
  · unfold records; isplitl; · iexact HI
    iexact HR
  · iapply (Entails.of_eq (bigSep_sep' Finset.univ (fun c : Dev nD => bigSep Finset.univ fun k : Fin 19 => (atPos ER (kcell (c, k)) 0 ∅ 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_dev {c c' : Dev nD} {s s' : SemLoc sig} (h : (((c : Thread nD τ), s) : GSem nD τ sig) = ((c' : Thread nD τ), s')) : c = c' :=
  congrArg (fun g : GSem nD τ sig => g.1.1) h
theorem recv_sem : ∀ d a d' a' : Fin 3, (SemLoc.dma (recvS d a) : SemLoc sig) = .dma (recvS d' a') → d = d' ∧ a = a' := by decide +kernel

theorem tally_bb (e c : Dev nD) (d : Fin 3) : tallyAt (barCell (pe e d)) () 1 (barCell c) () = if e = po c d then 1 else 0 := by
  rw [tallyAt_apply]
  by_cases h : e = po c d
  · subst h; rw [pe_po, if_pos ⟨rfl, rfl⟩, if_pos rfl]
  · rw [if_neg (fun h' => h (by rw [cell_dev h'.1, po_pe])), if_neg h]
theorem tally_rb (x c : Dev nD) (d a : Fin 3) (n : ℕ) : tallyAt (recvCell x d a) () n (barCell c) () = 0 := by
  rw [tallyAt_apply, if_neg fun h => by cases congrArg Prod.snd h.1]
theorem tally_br (x c : Dev nD) (d a : Fin 3) (n : ℕ) : tallyAt (barCell x) () n (recvCell c d a) () = 0 := by
  rw [tallyAt_apply, if_neg fun h => by cases congrArg Prod.snd h.1]
theorem tally_rr (e c : Dev nD) (d a d' a' : Fin 3) (n : ℕ) :
    tallyAt (recvCell (pe e d) d a) () n (recvCell c d' a') () = if d' = d ∧ a' = a then (if e = po c d' then n else 0) else 0 := by
  rw [tallyAt_apply]
  by_cases h : d' = d ∧ a' = a
  · obtain ⟨rfl, rfl⟩ := h
    rw [if_pos (show d' = d' ∧ a' = a' from ⟨rfl, rfl⟩)]
    by_cases h : e = po c d'
    · subst h; rw [pe_po, if_pos ⟨rfl, rfl⟩, if_pos rfl]
    · rw [if_neg (fun h' => h (by rw [cell_dev h'.1, po_pe])), if_neg h]
  · rw [if_neg h, if_neg fun h' => h (recv_sem _ _ _ _ (congrArg Prod.snd h'.1))]

theorem owed_bar (e c : Dev nD) : O₀ e (barCell c) () = (if e = po c 0 then 1 else 0) + (if e = po c 1 then 1 else 0) + (if e = po c 2 then 1 else 0) := by
  unfold O₀ Oarr
  simp only [Pi.add_apply, Finsupp.add_apply, tally_rb, tally_bb, Nat.zero_add]

theorem fin3 (d : Fin 3) : d = 0 ∨ d = 1 ∨ d = 2 := by revert d; decide

theorem owed_recv (e c : Dev nD) (d a : Fin 3) : O₀ e (recvCell c d a) () = if e = po c d then amt a else 0 := by
  unfold O₀ Oarr
  simp only [Pi.add_apply, Finsupp.add_apply, tally_br, tally_rr, Nat.add_zero]
  rcases fin3 d with rfl | rfl | rfl <;> rcases fin3 a with rfl | rfl | rfl <;> simp [amt]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun e _ => owed_bar e c, Finset.sum_add_distrib, Finset.sum_add_distrib,
    Finset.sum_ite_eq' Finset.univ (po c 0) fun _ => 1, Finset.sum_ite_eq' Finset.univ (po c 1) fun _ => 1, Finset.sum_ite_eq' Finset.univ (po c 2) fun _ => 1,
    if_pos (Finset.mem_univ _), if_pos (Finset.mem_univ _), if_pos (Finset.mem_univ _)]

theorem launch_recv (c : Dev nD) (d a : Fin 3) :
    tallyOn (recvCell c d a) (launchCredit (Pipeline.owing O₀) 0 (recvCell c d a)) = (tallyAt (recvCell c d a) () (amt a) : CellTallies nD τ sig Unit) := by
  unfold tallyAt; refine congrArg _ (Finsupp.ext fun u => ?_); cases u
  rw [Pipeline.launchCredit_owing, Finsupp.single_eq_same, Finset.sum_congr rfl fun e _ => owed_recv e c d a, Finset.sum_ite_eq' Finset.univ (po c d) fun _ => amt a,
    if_pos (Finset.mem_univ _)]

/-- A device's ten credit tokens. -/
def creds (c : Dev nD) : sProp 𝕄 :=
  iprop(cred (tallyAt (barCell c) () 3)
    ∗ cred (tallyAt (recvCell c 0 0) () (amt 0))
    ∗ cred (tallyAt (recvCell c 0 1) () (amt 1))
    ∗ cred (tallyAt (recvCell c 0 2) () (amt 2))
    ∗ cred (tallyAt (recvCell c 1 0) () (amt 0))
    ∗ cred (tallyAt (recvCell c 1 1) () (amt 1))
    ∗ cred (tallyAt (recvCell c 1 2) () (amt 2))
    ∗ cred (tallyAt (recvCell c 2 0) () (amt 0))
    ∗ cred (tallyAt (recvCell c 2 1) () (amt 1))
    ∗ cred (tallyAt (recvCell c 2 2) () (amt 2)))

theorem some_cells (Ψ : SemLoc sig → sProp 𝕄) : bigSep Finset.univ Ψ ⊢ iprop(Ψ (.reg barS)
    ∗ Ψ (.dma (recvS 0 0))
    ∗ Ψ (.dma (recvS 0 1))
    ∗ Ψ (.dma (recvS 0 2))
    ∗ Ψ (.dma (recvS 1 0))
    ∗ Ψ (.dma (recvS 1 1))
    ∗ Ψ (.dma (recvS 1 2))
    ∗ Ψ (.dma (recvS 2 0))
    ∗ Ψ (.dma (recvS 2 1))
    ∗ Ψ (.dma (recvS 2 2))) := by
  have e : bigSep Finset.univ (fun k : Fin 19 => Ψ (csem k)) = iprop(Ψ (.reg barS)
    ∗ Ψ (.dma (sendS 0 0)) ∗ Ψ (.dma (recvS 0 0))
    ∗ Ψ (.dma (sendS 0 1)) ∗ Ψ (.dma (recvS 0 1))
    ∗ Ψ (.dma (sendS 0 2)) ∗ Ψ (.dma (recvS 0 2))
    ∗ Ψ (.dma (sendS 1 0)) ∗ Ψ (.dma (recvS 1 0))
    ∗ Ψ (.dma (sendS 1 1)) ∗ Ψ (.dma (recvS 1 1))
    ∗ Ψ (.dma (sendS 1 2)) ∗ Ψ (.dma (recvS 1 2))
    ∗ Ψ (.dma (sendS 2 0)) ∗ Ψ (.dma (recvS 2 0))
    ∗ Ψ (.dma (sendS 2 1)) ∗ Ψ (.dma (recvS 2 1))
    ∗ Ψ (.dma (sendS 2 2)) ∗ Ψ (.dma (recvS 2 2))) := by rw [bigSep_cells]; rfl
  refine (bigSep_subset (Finset.subset_univ (Finset.univ.map ⟨csem, csem_injective⟩))).trans ?_
  rw [bigSep_map]
  refine (Entails.of_eq e).trans ?_
  iintro ⟨H0, -, H00, -, H01, -, H02, -, H10, -, H11, -, H12, -, H20, -, H21, -, H22⟩
  isplitl [H0]; · iexact H0
  isplitl [H00]; · iexact H00
  isplitl [H01]; · iexact H01
  isplitl [H02]; · iexact H02
  isplitl [H10]; · iexact H10
  isplitl [H11]; · iexact H11
  isplitl [H12]; · iexact H12
  isplitl [H20]; · iexact H20
  isplitl [H21]; · iexact H21
  iexact H22

theorem creds_intro (c : Dev nD) : (Pipeline.launchCred O₀ c : sProp 𝕄) ⊢ creds c := by
  unfold Pipeline.launchCred creds
  rw [← launch_bar]
  rw [← launch_recv c 0 0]
  rw [← launch_recv c 0 1]
  rw [← launch_recv c 0 2]
  rw [← launch_recv c 1 0]
  rw [← launch_recv c 1 1]
  rw [← launch_recv c 1 2]
  rw [← launch_recv c 2 0]
  rw [← launch_recv c 2 1]
  rw [← launch_recv c 2 2]
  exact some_cells _

/-! ## What a device starts from -/

def start (c : Dev nD) : sProp 𝕄 := iprop(G' m c ∗ creds c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem pair_intro (K : Dev nD × Fin 19 → ℕ) (c : Dev nD) (d a : Fin 3) (hs : kcell (c, ks d a) = sendCell c d a) (hr : kcell (c, kr d a) = recvCell c d a)
    (hp : kcell (pe c d, kr d a) = recvCell (pe c d) d a) :
    iprop(records m K ∗ dutyTok ER (sendCell c d a) 0 0 ∗ dutyTok ER (recvCell (pe c d) d a) 0 0
      ∗ atPos ER (sendCell c d a) 0 ∅ 0 ∗ atPos ER (recvCell c d a) 0 ∅ 0 ∗ cred (tallyAt (recvCell c d a) () (amt a)))
      ⊢ pairKit (sent m) K c d a := by
  have i1 := inv_at m K (c, ks d a)
  have i2 := inv_at m K (c, kr d a)
  have i3 := inv_at m K (pe c d, kr d a)
  have r1 := reached_at m K (c, ks d a)
  have r3 := reached_at m K (pe c d, kr d a)
  rw [hs] at i1 r1
  rw [hr] at i2
  rw [hp] at i3 r3
  unfold pairKit
  iintro ⟨#HR, H1, H2, H3, H4, H5⟩
  isplitr; · iapply i1; iexact HR
  isplitr; · iapply i2; iexact HR
  isplitr; · iapply i3; iexact HR
  isplitr; · iapply r1; iexact HR
  isplitr; · iapply r3; iexact HR
  isplitl [H1]; · iexact H1
  isplitl [H2]; · iexact H2
  isplitl [H3]; · iexact H3
  isplitl [H4]; · iexact H4
  iexact H5

theorem payToks_eq (c : Dev nD) : (payToks c : sProp 𝕄) =
    iprop(dutyTok ER (barCell (pe c 0)) 0 0 ∗ dutyTok ER (barCell (pe c 1)) 0 1 ∗ dutyTok ER (barCell (pe c 2)) 0 2
      ∗ dutyTok ER (sendCell c 0 0) 0 0 ∗ dutyTok ER (recvCell (pe c 0) 0 0) 0 0
      ∗ dutyTok ER (sendCell c 0 1) 0 0 ∗ dutyTok ER (recvCell (pe c 0) 0 1) 0 0
      ∗ dutyTok ER (sendCell c 0 2) 0 0 ∗ dutyTok ER (recvCell (pe c 0) 0 2) 0 0
      ∗ dutyTok ER (sendCell c 1 0) 0 0 ∗ dutyTok ER (recvCell (pe c 1) 1 0) 0 0
      ∗ dutyTok ER (sendCell c 1 1) 0 0 ∗ dutyTok ER (recvCell (pe c 1) 1 1) 0 0
      ∗ dutyTok ER (sendCell c 1 2) 0 0 ∗ dutyTok ER (recvCell (pe c 1) 1 2) 0 0
      ∗ dutyTok ER (sendCell c 2 0) 0 0 ∗ dutyTok ER (recvCell (pe c 2) 2 0) 0 0
      ∗ dutyTok ER (sendCell c 2 1) 0 0 ∗ dutyTok ER (recvCell (pe c 2) 2 1) 0 0
      ∗ dutyTok ER (sendCell c 2 2) 0 0 ∗ dutyTok ER (recvCell (pe c 2) 2 2) 0 0) := by
  unfold payToks
  rw [bigSep_univ_eq_bigSepL [0, 1, 2, 3, 12, 4, 13, 5, 14, 6, 15, 7, 16, 8, 17, 9, 18, 10, 19, 11, 20] (by decide) (by decide)]; rfl

theorem ats_eq (c : Dev nD) : (bigSep Finset.univ fun k : Fin 19 => (atPos ER (kcell (c, k)) 0 ∅ 0 : sProp 𝕄)) =
    iprop(atPos ER (barCell c) 0 ∅ 0
      ∗ atPos ER (sendCell c 0 0) 0 ∅ 0 ∗ atPos ER (recvCell c 0 0) 0 ∅ 0
      ∗ atPos ER (sendCell c 0 1) 0 ∅ 0 ∗ atPos ER (recvCell c 0 1) 0 ∅ 0
      ∗ atPos ER (sendCell c 0 2) 0 ∅ 0 ∗ atPos ER (recvCell c 0 2) 0 ∅ 0
      ∗ atPos ER (sendCell c 1 0) 0 ∅ 0 ∗ atPos ER (recvCell c 1 0) 0 ∅ 0
      ∗ atPos ER (sendCell c 1 1) 0 ∅ 0 ∗ atPos ER (recvCell c 1 1) 0 ∅ 0
      ∗ atPos ER (sendCell c 1 2) 0 ∅ 0 ∗ atPos ER (recvCell c 1 2) 0 ∅ 0
      ∗ atPos ER (sendCell c 2 0) 0 ∅ 0 ∗ atPos ER (recvCell c 2 0) 0 ∅ 0
      ∗ atPos ER (sendCell c 2 1) 0 ∅ 0 ∗ atPos ER (recvCell c 2 1) 0 ∅ 0
      ∗ atPos ER (sendCell c 2 2) 0 ∅ 0 ∗ atPos ER (recvCell c 2 2) 0 ∅ 0) := by
  rw [bigSep_cells]; rfl

theorem kits (K : Dev nD × Fin 19 → ℕ) (c : Dev nD) :
    iprop(records m K ∗ (bigSep Finset.univ fun k : Fin 19 => atPos ER (kcell (c, k)) 0 ∅ 0) ∗ payToks c ∗ creds c ∗ levAts Cert.Paged.L lv
      ∗ slotsAny c 0 ∗ slotsAny c 1 ∗ slotsAny c 2)
      ⊢ iprop(ownInv m K c ∗ barKit (sent m) K c ∗ exKit (sent m) K c) := by
  have ho : records m K ⊢ ownInv m K c := by
    unfold ownInv
    exact (BI.bigSep_of_persistent Finset.univ (records m K)).trans (bigSep_mono fun k _ => inv_at m K (c, k))
  rw [payToks_eq, ats_eq]
  unfold creds barKit exKit
  iintro ⟨#HR, ⟨AB, AS00, AR00, AS01, AR01, AS02, AR02, AS10, AR10, AS11, AR11, AS12, AR12, AS20, AR20, AS21, AR21, AS22, AR22⟩, ⟨T0, T1, T2, TS00, TR00, TS01, TR01, TS02, TR02, TS10, TR10, TS11, TR11, TS12, TR12, TS20, TR20, TS21, TR21, TS22, TR22⟩, ⟨CB, C00, C01, C02, C10, C11, C12, C20, C21, C22⟩, #Hlev, S0, S1, S2⟩
  isplitr; · iapply ho; iexact HR
  isplitl [AB T0 T1 T2 CB S0 S1 S2]
  · isplitr; · iapply (inv_at m K (c, 0)); iexact HR
    isplitr; · iapply (inv_at m K (pe c 0, 0)); iexact HR
    isplitr; · iapply (inv_at m K (pe c 1, 0)); iexact HR
    isplitr; · iapply (inv_at m K (pe c 2, 0)); iexact HR
    isplitr; · iapply (reached_at m K (pe c 0, 0)); iexact HR
    isplitr; · iapply (reached_at m K (pe c 1, 0)); iexact HR
    isplitr; · iapply (reached_at m K (pe c 2, 0)); iexact HR
    isplitl [T0]; · iexact T0
    isplitl [T1]; · iexact T1
    isplitl [T2]; · iexact T2
    isplitl [AB]; · iexact AB
    isplitl [CB]; · iexact CB
    isplitr; · iexact Hlev
    isplitl [S0]; · iexact S0
    isplitl [S1]; · iexact S1
    iexact S2
  isplitr; · iexact Hlev
  isplitl [TS00 TR00 AS00 AR00 C00]
  · iapply (pair_intro m K c 0 0 rfl rfl rfl)
    isplitr; · iexact HR
    isplitl [TS00]; · iexact TS00
    isplitl [TR00]; · iexact TR00
    isplitl [AS00]; · iexact AS00
    isplitl [AR00]; · iexact AR00
    iexact C00
  isplitl [TS01 TR01 AS01 AR01 C01]
  · iapply (pair_intro m K c 0 1 rfl rfl rfl)
    isplitr; · iexact HR
    isplitl [TS01]; · iexact TS01
    isplitl [TR01]; · iexact TR01
    isplitl [AS01]; · iexact AS01
    isplitl [AR01]; · iexact AR01
    iexact C01
  isplitl [TS02 TR02 AS02 AR02 C02]
  · iapply (pair_intro m K c 0 2 rfl rfl rfl)
    isplitr; · iexact HR
    isplitl [TS02]; · iexact TS02
    isplitl [TR02]; · iexact TR02
    isplitl [AS02]; · iexact AS02
    isplitl [AR02]; · iexact AR02
    iexact C02
  isplitl [TS10 TR10 AS10 AR10 C10]
  · iapply (pair_intro m K c 1 0 rfl rfl rfl)
    isplitr; · iexact HR
    isplitl [TS10]; · iexact TS10
    isplitl [TR10]; · iexact TR10
    isplitl [AS10]; · iexact AS10
    isplitl [AR10]; · iexact AR10
    iexact C10
  isplitl [TS11 TR11 AS11 AR11 C11]
  · iapply (pair_intro m K c 1 1 rfl rfl rfl)
    isplitr; · iexact HR
    isplitl [TS11]; · iexact TS11
    isplitl [TR11]; · iexact TR11
    isplitl [AS11]; · iexact AS11
    isplitl [AR11]; · iexact AR11
    iexact C11
  isplitl [TS12 TR12 AS12 AR12 C12]
  · iapply (pair_intro m K c 1 2 rfl rfl rfl)
    isplitr; · iexact HR
    isplitl [TS12]; · iexact TS12
    isplitl [TR12]; · iexact TR12
    isplitl [AS12]; · iexact AS12
    isplitl [AR12]; · iexact AR12
    iexact C12
  isplitl [TS20 TR20 AS20 AR20 C20]
  · iapply (pair_intro m K c 2 0 rfl rfl rfl)
    isplitr; · iexact HR
    isplitl [TS20]; · iexact TS20
    isplitl [TR20]; · iexact TR20
    isplitl [AS20]; · iexact AS20
    isplitl [AR20]; · iexact AR20
    iexact C20
  isplitl [TS21 TR21 AS21 AR21 C21]
  · iapply (pair_intro m K c 2 1 rfl rfl rfl)
    isplitr; · iexact HR
    isplitl [TS21]; · iexact TS21
    isplitl [TR21]; · iexact TR21
    isplitl [AS21]; · iexact AS21
    isplitl [AR21]; · iexact AR21
    iexact C21
  iapply (pair_intro m K c 2 2 rfl rfl rfl)
  isplitr; · iexact HR
  isplitl [TS22]; · iexact TS22
  isplitl [TR22]; · iexact TR22
  isplitl [AS22]; · iexact AS22
  isplitl [AR22]; · iexact AR22
  iexact C22

theorem slots_any (c : Dev nD) (f : Buf (Elt F) (obB.view.loc (c : Thread nD τ))) (g : Buf (Elt F) (mbB.view.loc (c : Thread nD τ))) (h : Buf (Elt F) (lbB.view.loc (c : Thread nD τ))) :
    (iprop((obB.view.loc (c : Thread nD τ) ↦{fullShare} f) ∗ (mbB.view.loc (c : Thread nD τ) ↦{fullShare} g) ∗ (lbB.view.loc (c : Thread nD τ) ↦{fullShare} h)) : sProp 𝕄)
      ⊢ iprop(slotsAny c 0 ∗ slotsAny c 1 ∗ slotsAny c 2) := by
  rw [split_slotO, split_slotM, split_slotL, bigSep_three, bigSep_three, bigSep_three]
  unfold slotsAny
  iintro ⟨⟨O0, O1, O2⟩, ⟨M0, M1, M2⟩, L0, L1, L2⟩
  isplitl [O0 M0 L0]
  · isplitl [O0]; · iexists f; iexact O0
    isplitl [M0]; · iexists g; iexact M0
    iexists h; iexact L0
  isplitl [O1 M1 L1]
  · isplitl [O1]; · iexists f; iexact O1
    isplitl [M1]; · iexists g; iexact M1
    iexists h; iexact L1
  isplitl [O2]; · iexists f; iexact O2
  isplitl [M2]; · iexists g; iexact M2
  iexists h; iexact L2

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from (by show ΦAt m c 0 = _; unfold ΦAt; rw [if_pos rfl]), scopedRest0_eq]
  unfold Φ₀ start G'
  iintro ⟨⟨⟨%K, HR, Hat, HT⟩, HC, HL⟩, -, ⟨%f0, B0⟩, ⟨%f1, B1⟩, ⟨%f2, B2⟩, ⟨%f3, B3⟩, ⟨%f4, B4⟩, ⟨%f5, B5⟩, ⟨%f6, B6⟩, ⟨%f7, B7⟩⟩
  isplitl [HR Hat HT HC HL B5 B6 B7]
  · iexists K
    iapply (kits m K c)
    isplitl [HR]; · iexact HR
    isplitl [Hat]; · iexact Hat
    isplitl [HT]; · iexact HT
    isplitl [HC]; · iexact HC
    isplitl [HL]; · iexact HL
    iapply (slots_any c f5 f6 f7)
    isplitl [B5]; · iexact B5
    isplitl [B6]; · iexact B6
    iexact B7
  isplitl [B0]; · iexists f0; iexact B0
  isplitl [B1]; · iexists f1; iexact B1
  isplitl [B2]; · iexists f2; iexact B2
  isplitl [B3]; · iexists f3; iexact B3
  iexists f4; iexact B4

theorem phi_last (c : Dev nD) :
    (dats m 0 c).Φ (Fin.last cfg0.N) ⊢ iprop(unscopedSems0 c ∗ Pipeline.ownSems0 osem c ∗ Pipeline.scopedRest cfg0.spec c) := by
  have h : (dats m 0 c).Φ (Fin.last cfg0.N) = Φ₂ c := by
    show ΦAt m c cfg0.N = _
    rw [show cfg0.N = 8 from N_0]; rfl
  rw [h, scopedRest0_eq]
  unfold Φ₂
  rw [sems0_eq]
  iintro ⟨B0, B1, B2, B3, B4, B5, B6, B7, HU, HO⟩
  isplitl [HU]; · iexact HU
  isplitl [HO]; · iexact HO
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

theorem owedAt_cases (c : Dev nD) (n : ℕ) : owedAt c n = O₀ c ∨ owedAt c n = Oarr c ∨ owedAt c n = 0 := by
  unfold owedAt
  by_cases h : n = 0
  · left; rw [if_pos h]
  · by_cases h' : n = 8
    · right; right; rw [if_neg h, if_pos h']
    · right; left; rw [if_neg h, if_neg h']

theorem waits (c : Dev nD) : (levAts L lv : sProp 𝕄) ⊢ Pipeline.cellsWaits cfgs (dats m) () 0 c :=
  Pipeline.cellsWaits_intro cfgs (dats m) () 0 c fun w s t =>
    mayWait_low c _ (by revert w s; decide +kernel) _ (owedAt_cases c t.val)

/-! ## The run -/

/-- What the run leaves in every window's array. -/
def finalA (c : Dev nD) (w : Fin cfg0.W) : Buf (Elt F) ((cfg0.win w).arr.view.loc (c : Thread nD τ)) := (dats m 0 c).arrAt w cfg0.N

set_option maxRecDepth 8000 in
/-- From any memory with every counter at zero, every fair execution on the sixteen devices ends, with every window's
    array at the computed contents and every counter at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun c => (show owedAt c 0 = O₀ c by unfold owedAt; rw [if_pos rfl]))
    (howedN := fun c => (show owedAt c cfg0.N = 0 by rw [show cfg0.N = 8 from N_0]; rfl))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Paged
-- ==== Proof.Reads.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.First
public import Idealize.ShloMosaic.Lib.Ring.Trips
public import Idealize.ShloMosaic.Lib.Pointwise
public import Idealize.ShloMosaic.Lib.MatmulPlain
public import Idealize.ShloMosaic.PureOps.Ideal.Laws
public import proofs.«01_k».proof.Proof.Grid

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

/-! # The kernel's values, entry by entry -/

theorem at1_eq (r : Fin 32) : at1 r = (ix2 r 0 : S32x1.Idx) := by funext a; exact match a with | 0 => rfl | 1 => rfl
theorem at128_eq (r : Fin 32) (d : Fin 128) : at128 r d = (ix2 r d : S32x128.Idx) := by funext a; exact match a with | 0 => rfl | 1 => rfl
theorem at4_eq (r : Fin 32) (d : Fin 128) : at4 r d = (ix4 r 0 0 d : S32x1x1x128.Idx) := by
  funext a; exact match a with | 0 => rfl | 1 => rfl | 2 => rfl | 3 => rfl

/-- Column `h`, `d` of the accumulator. -/
def col (h : Fin 16) (d : Fin 128) : Fin 2048 := ⟨128 * h.val + d.val, by omega⟩

theorem headOf_col (h : Fin 16) (d : Fin 128) : headOf (col h d) = h := Fin.ext (by show (128 * h.val + d.val) / 128 = _; omega)
theorem laneOf_col (h : Fin 16) (d : Fin 128) : laneOf (col h d) = d := Fin.ext (by show (128 * h.val + d.val) % 128 = _; omega)

theorem qWin_at (q : Vec Ideal S32x1x16x128 .f32) (h : Fin 16) (r : Fin 32) (d : Fin 128) : qWin q h (ix4 r 0 0 d) = q (ix4 r 0 h d) :=
  congrArg q (by
    funext a; exact match a with
      | 0 => Fin.ext (by show 0 + 1 * r.val = r.val; omega)
      | 1 => Fin.ext (by show 0 + 1 * 0 = 0; omega)
      | 2 => Fin.ext (by show h.val + 1 * 0 = h.val; omega)
      | 3 => Fin.ext (by show 0 + 1 * d.val = d.val; omega))

theorem mWin_at (M : Vec Ideal S32x16 .f32) (h : Fin 16) (r : Fin 32) : mWin M h (ix2 r 0) = M (ix2 r h) :=
  congrArg M (by
    funext a; exact match a with
      | 0 => Fin.ext (by show 0 + 1 * r.val = r.val; omega)
      | 1 => Fin.ext (by show h.val + 1 * 0 = h.val; omega))

theorem aWin_at (A : Vec Ideal S32x2048 .f32) (h : Fin 16) (r : Fin 32) (d : Fin 128) : aWin A h (ix2 r d) = A (ix2 r (col h d)) :=
  congrArg A (by
    funext a; exact match a with
      | 0 => Fin.ext (by show 0 + 1 * r.val = r.val; omega)
      | 1 => Fin.ext (by show 128 * h.val + 1 * d.val = 128 * h.val + d.val; omega))

theorem gWin_at {e : EltTy} (w : Fin 3 → Vec Ideal S32x16 e) (i : Fin 3) (r : Fin 32) (h : Fin 16) :
    gWin (stack w) i (ix3 0 r h) = w i (ix2 r h) := by
  have e1 : (Rect.unit (s := S3x32x16) ![i.val, 0, 0] S1x32x16.size (inbG i)).emb (ix3 0 r h : S1x32x16.Idx) = (ix3 i r h : S3x32x16.Idx) := by
    funext a; exact match a with
      | 0 => Fin.ext (by show i.val + 1 * 0 = i.val; omega)
      | 1 => Fin.ext (by show 0 + 1 * r.val = r.val; omega)
      | 2 => Fin.ext (by show 0 + 1 * h.val = h.val; omega)
  show stack w ((Rect.unit (s := S3x32x16) ![i.val, 0, 0] S1x32x16.size (inbG i)).emb (ix3 0 r h : S1x32x16.Idx)) = _
  rw [e1]; rfl

theorem oWin_at (w : Fin 3 → Vec Ideal S32x2048 .bf16) (i : Fin 3) (h : Fin 16) (r : Fin 32) (d : Fin 128) :
    oWin (stack w) i h (ix3 0 r d) = w i (ix2 r (col h d)) := by
  have e1 : (Rect.unit (s := S3x32x2048) ![i.val, 0, 128 * h.val] S1x32x128.size (inbGo i h)).emb (ix3 0 r d : S1x32x128.Idx) = (ix3 i r (col h d) : S3x32x2048.Idx) := by
    funext a; exact match a with
      | 0 => Fin.ext (by show i.val + 1 * 0 = i.val; omega)
      | 1 => Fin.ext (by show 0 + 1 * r.val = r.val; omega)
      | 2 => Fin.ext (by show 128 * h.val + 1 * d.val = 128 * h.val + d.val; omega)
  show stack w ((Rect.unit (s := S3x32x2048) ![i.val, 0, 128 * h.val] S1x32x128.size (inbGo i h)).emb (ix3 0 r d : S1x32x128.Idx)) = _
  rw [e1]; rfl

/-- A key's page of the step, and its place in the page. -/
def kpage (x : Fin 1024) : Fin 32 := ⟨x.val / 32, by omega⟩
def kslot (x : Fin 1024) : Fin 32 := ⟨x.val % 32, Nat.mod_lt _ (by decide)⟩

theorem headRows_k (k : Vec Ideal S32x32x16x128 .f32) (h : Fin 16) (x : Fin 1024) (d : Fin 128) :
    headRows (k0_pay50 k) h (ix2 x d) = k (ix4 (kpage x) (kslot x) h d) := by
  pointwise [headRows, k0_pay50]
  rfl

theorem headRows_v (k : Vec Ideal S32x32x16x128 .f32) (h : Fin 16) (x : Fin 1024) (d : Fin 128) :
    headRows (k0_pay51 k) h (ix2 x d) = k (ix4 (kpage x) (kslot x) h d) := by
  pointwise [headRows, k0_pay51]
  rfl

/-- The score of query row `r` against key `x` of the step, head `h`. -/
def sc (q : Vec Ideal S32x1x16x128 .f32) (k : Vec Ideal S32x32x16x128 .f32) (r : Fin 32) (h : Fin 16) (x : Fin 1024) : EReal :=
  ∑ d : Fin 128, q (ix4 r 0 h d) * (((Real.sqrt 128)⁻¹ : ℝ) : EReal) * k (ix4 (kpage x) (kslot x) h d)

theorem score_at (q : Vec Ideal S32x1x16x128 .f32) (k : Vec Ideal S32x32x16x128 .f32) (h : Fin 16) (r : Fin 32) (x : Fin 1024) :
    score (k0_pay50 k) (qWin q h) h (ix2 r x) = sc q k r h x := by
  pointwise [score, dot_S32x128_S1024x128_S32x1024_1_1_0_0_n_n]
  unfold sc
  refine Finset.sum_congr rfl fun d _ => ?_
  rw [headRows_k]
  exact congrArg (fun y : EReal => y * _ * _) (qWin_at q h r d)

theorem mNext_at (q : Vec Ideal S32x1x16x128 .f32) (k : Vec Ideal S32x32x16x128 .f32) (M : Vec Ideal S32x16 .f32) (h : Fin 16) (r : Fin 32) :
    mNext (k0_pay50 k) (qWin q h) (mWin M h) h (ix2 r 0)
      = max (M (ix2 r h)) (Finset.univ.fold max (Ideal.ofBits FTy.f32 4286578688#32) fun x => sc q k r h x) := by
  pointwise [mNext]
  rw [mWin_at]
  exact congrArg (fun f : Fin 1024 → EReal => max (M (ix2 r h)) (Finset.univ.fold max (Ideal.ofBits FTy.f32 4286578688#32) f)) (funext fun x => score_at q k h r x)

theorem newM_at (q : Vec Ideal S32x1x16x128 .f32) (k : Vec Ideal S32x32x16x128 .f32) (M : Vec Ideal S32x16 .f32) (h : Fin 16) (r : Fin 32) :
    newM q k M (ix2 r h) = mNext (k0_pay50 k) (qWin q h) (mWin M h) h (ix2 r 0) := by
  show mStored (k0_pay50 k) (qWin q h) (mWin M h) h (at1 r) = _
  rw [at1_eq]
  pointwise [mStored]

theorem pN_at (wk : FVec Ideal S32x1024 .f32) (q : Vec Ideal S32x1x16x128 .f32) (k : Vec Ideal S32x32x16x128 .f32) (M : Vec Ideal S32x16 .f32) (h : Fin 16) (r : Fin 32) (x : Fin 1024) :
    pN wk (k0_pay50 k) (qWin q h) (mWin M h) h (ix2 r x) = wk (ix2 r x) * Ideal.exp (sc q k r h x - newM q k M (ix2 r h)) := by
  rw [newM_at, ← score_at]
  pointwise [pN]

theorem newL_at (i : grid0.Coords) (c : Dev nD) (q : Vec Ideal S32x1x16x128 .f32) (k : Vec Ideal S32x32x16x128 .f32) (M L : Vec Ideal S32x16 .f32) (T : Vec Ideal S32x256 .i32) (h : Fin 16) (r : Fin 32) :
    newL i c q k M L T (ix2 r h) = L (ix2 r h) * Ideal.exp (M (ix2 r h) - newM q k M (ix2 r h))
      + ∑ x : Fin 1024, wkOf i c T (ix2 r x) * Ideal.exp (sc q k r h x - newM q k M (ix2 r h)) := by
  show lStored (wkOf i c T) (k0_pay50 k) (qWin q h) (mWin M h) (mWin L h) h (at1 r) = _
  rw [at1_eq, newM_at, ← mWin_at L, ← mWin_at M]
  have e : ∀ x : Fin 1024, wkOf i c T (ix2 r x) * Ideal.exp (sc q k r h x - mNext (k0_pay50 k) (qWin q h) (mWin M h) h (ix2 r 0))
      = pN (wkOf i c T) (k0_pay50 k) (qWin q h) (mWin M h) h (ix2 r x) := fun x => by rw [pN_at, newM_at]
  rw [Finset.sum_congr rfl fun x _ => e x]
  pointwise [lStored, alphaN]

theorem newA_at (i : grid0.Coords) (c : Dev nD) (q : Vec Ideal S32x1x16x128 .f32) (k v : Vec Ideal S32x32x16x128 .f32) (M : Vec Ideal S32x16 .f32) (A : Vec Ideal S32x2048 .f32) (T : Vec Ideal S32x256 .i32) (h : Fin 16) (r : Fin 32) (d : Fin 128) :
    newA i c q k v M A T (ix2 r (col h d)) = A (ix2 r (col h d)) * Ideal.exp (M (ix2 r h) - newM q k M (ix2 r h))
      + ∑ x : Fin 1024, wkOf i c T (ix2 r x) * Ideal.exp (sc q k r h x - newM q k M (ix2 r h)) * v (ix4 (kpage x) (kslot x) h d) := by
  show aStored (wkOf i c T) (k0_pay50 k) (k0_pay51 v) (qWin q (headOf (col h d))) (mWin M (headOf (col h d))) (aWin A (headOf (col h d))) (headOf (col h d)) (at128 r (laneOf (col h d))) = _
  rw [headOf_col, laneOf_col, at128_eq, newM_at, ← aWin_at A, ← mWin_at M]
  have e : ∀ x : Fin 1024, wkOf i c T (ix2 r x) * Ideal.exp (sc q k r h x - mNext (k0_pay50 k) (qWin q h) (mWin M h) h (ix2 r 0)) * v (ix4 (kpage x) (kslot x) h d)
      = pN (wkOf i c T) (k0_pay50 k) (qWin q h) (mWin M h) h (ix2 r x) * headRows (k0_pay51 v) h (ix2 x d) := fun x => by rw [pN_at, newM_at, headRows_v]
  rw [Finset.sum_congr rfl fun x _ => e x]
  pointwise [aStored, alphaN, dot_S32x1024_S1024x128_S32x128_1_0_0_1_n_n]

end Cert.Paged
-- ==== Proof.Soft.lean ====
module

public import Idealize.ShloMosaic.PureOps.Ideal
public import Idealize.ShloMosaic.PureOps.Ideal.Laws
public import Mathlib.Data.EReal.Operations

@[expose] public section

noncomputable section

/-! # Attention over the extended reals: running sums, their merge, and the plain quotient

Nothing of a program here: scores are real numbers, weights are counts of a page in a row of the table, values are any
extended reals. -/

namespace Cert.Soft

open Idealize.ShloMosaic Finset

/-! ## Sums with real factors -/

theorem coe_sum {ι : Type*} (S : Finset ι) (f : ι → ℝ) : ((∑ x ∈ S, f x : ℝ) : EReal) = ∑ x ∈ S, (f x : EReal) := by
  classical
  induction S using Finset.induction_on with
  | empty => simp
  | insert a s ha ih => rw [sum_insert ha, sum_insert ha, EReal.coe_add, ih]

theorem sum_mul_coe {ι : Type*} (c : ℝ) (hc : 0 ≤ c) (S : Finset ι) (f : ι → EReal) :
    (∑ x ∈ S, f x) * (c : EReal) = ∑ x ∈ S, f x * (c : EReal) := by
  classical
  induction S using Finset.induction_on with
  | empty => simp
  | insert a s ha ih =>
    rw [sum_insert ha, sum_insert ha, ← ih, EReal.right_distrib_of_nonneg_of_ne_top (EReal.coe_nonneg.2 hc) (EReal.coe_ne_top c)]

theorem sum_coe_mul {ι : Type*} (S : Finset ι) (w : ι → ℝ) (hw : ∀ x, 0 ≤ w x) (v : EReal) :
    ((∑ x ∈ S, w x : ℝ) : EReal) * v = ∑ x ∈ S, (w x : EReal) * v := by
  classical
  induction S using Finset.induction_on with
  | empty => simp
  | insert a s ha ih =>
    rw [sum_insert ha, sum_insert ha, ← ih, EReal.coe_add,
      EReal.right_distrib_of_nonneg (EReal.coe_nonneg.2 (hw a)) (EReal.coe_nonneg.2 (Finset.sum_nonneg fun x _ => hw x))]

theorem exp_sub (a b : ℝ) : Ideal.exp ((a : EReal) - (b : EReal)) = ((Real.exp (a - b) : ℝ) : EReal) := by
  rw [← EReal.coe_sub]; rfl

theorem div_coe {T : ℝ} (hT : T ≠ 0) (x : EReal) : Ideal.div x (T : EReal) = x * ((T⁻¹ : ℝ) : EReal) := by
  unfold Ideal.div
  rw [if_neg (by exact_mod_cast hT), EReal.coe_inv]

theorem coe_max (a b : ℝ) : ((max a b : ℝ) : EReal) = max (a : EReal) (b : EReal) := EReal.coe_strictMono.monotone.map_max

/-- A maximum of finitely many real numbers, over a real start, is a real number. -/
theorem max_fold {ι : Type*} (S : Finset ι) (f : ι → EReal) (hf : ∀ x, f x = ⊥ ∨ ∃ r : ℝ, f x = r) (μ : ℝ) :
    ∃ μ' : ℝ, max (μ : EReal) (S.fold max ⊥ f) = (μ' : EReal) := by
  classical
  induction S using Finset.induction_on with
  | empty => exact ⟨μ, by simp⟩
  | insert a s ha ih =>
    obtain ⟨μ', h⟩ := ih
    rw [fold_insert ha, max_left_comm, h]
    rcases hf a with h0 | ⟨r, h0⟩
    · exact ⟨μ', by rw [h0]; simp⟩
    · exact ⟨max r μ', by rw [h0, coe_max]⟩

/-- The same with the start among them. -/
theorem fold_real {ι : Type*} [DecidableEq ι] (S : Finset ι) (f : ι → EReal) (hf : ∀ x, f x = ⊥ ∨ ∃ r : ℝ, f x = r) (a : ι) (ha : a ∈ S)
    (r : ℝ) (hr : f a = r) : ∃ μ : ℝ, S.fold max ⊥ f = (μ : EReal) := by
  rw [← insert_erase ha, fold_insert (notMem_erase a S), hr]
  exact max_fold _ f hf r

/-! ## One device's running sums -/

/-- The weighted sum over the first `n` steps, the exponents taken from `μ`. -/
def part (w σ : ℕ → Fin 1024 → ℝ) (v : ℕ → Fin 1024 → EReal) (μ : ℝ) (n : ℕ) : EReal :=
  ∑ t ∈ range n, ∑ k, ((w t k * Real.exp (σ t k - μ) : ℝ) : EReal) * v t k

theorem part_rescale (w σ : ℕ → Fin 1024 → ℝ) (v : ℕ → Fin 1024 → EReal) (μ μ' : ℝ) (n : ℕ) :
    part w σ v μ n * ((Real.exp (μ - μ') : ℝ) : EReal) = part w σ v μ' n := by
  unfold part
  rw [sum_mul_coe _ (Real.exp_pos _).le]
  refine sum_congr rfl fun t _ => ?_
  rw [sum_mul_coe _ (Real.exp_pos _).le]
  refine sum_congr rfl fun k _ => ?_
  rw [mul_right_comm, ← EReal.coe_mul, mul_assoc, ← Real.exp_add, show σ t k - μ + (μ - μ') = σ t k - μ' by ring]

/-- The running maximum is a real number and the running sums are the weighted sums taken from it. -/
theorem running (w σ : ℕ → Fin 1024 → ℝ) (v : ℕ → Fin 1024 → EReal) (M L A : ℕ → EReal) (N : ℕ)
    (h0 : ∃ μ : ℝ, M 0 = μ) (l0 : L 0 = 0) (a0 : A 0 = 0)
    (hM : ∀ n < N, M (n + 1) = max (M n) (univ.fold max ⊥ fun k => (σ n k : EReal)))
    (hL : ∀ n < N, L (n + 1) = L n * Ideal.exp (M n - M (n + 1)) + ∑ k, (w n k : EReal) * Ideal.exp ((σ n k : EReal) - M (n + 1)))
    (hA : ∀ n < N, A (n + 1) = A n * Ideal.exp (M n - M (n + 1))
      + ∑ k, (w n k : EReal) * Ideal.exp ((σ n k : EReal) - M (n + 1)) * v n k) :
    ∀ n ≤ N, ∃ μ : ℝ, M n = μ ∧ L n = part w σ (fun _ _ => 1) μ n ∧ A n = part w σ v μ n := by
  intro n
  induction n with
  | zero => exact fun _ => h0.imp fun μ h => ⟨h, by rw [l0]; simp [part], by rw [a0]; simp [part]⟩
  | succ n ih =>
    intro hn
    obtain ⟨μ, hm, hl, ha⟩ := ih (by omega)
    obtain ⟨μ', h'⟩ := max_fold univ (fun k => (σ n k : EReal)) (fun k => .inr ⟨_, rfl⟩) μ
    have hm' : M (n + 1) = (μ' : EReal) := by rw [hM n (by omega), hm, h']
    refine ⟨μ', hm', ?_, ?_⟩
    · rw [hL n (by omega), hm, hm', exp_sub, hl, part_rescale]
      unfold part
      rw [sum_range_succ]
      refine congrArg _ (sum_congr rfl fun k _ => ?_)
      rw [exp_sub, EReal.coe_mul, mul_one]
    · rw [hA n (by omega), hm, hm', exp_sub, ha, part_rescale]
      unfold part
      rw [sum_range_succ]
      refine congrArg _ (sum_congr rfl fun k _ => ?_)
      rw [exp_sub, EReal.coe_mul]

/-- Four devices' sums, rescaled to the common maximum, added up and divided. -/
theorem merge4 (w σ : Fin 4 → ℕ → Fin 1024 → ℝ) (v : Fin 4 → ℕ → Fin 1024 → EReal) (M L A : Fin 4 → EReal) (n : ℕ)
    (h : ∀ i, ∃ μ : ℝ, M i = μ ∧ L i = part (w i) (σ i) (fun _ _ => 1) μ n ∧ A i = part (w i) (σ i) (v i) μ n) :
    ∃ μ : ℝ, Ideal.div (A 0 * Ideal.exp (M 0 - max (max (max (M 0) (M 1)) (M 2)) (M 3)) + A 1 * Ideal.exp (M 1 - max (max (max (M 0) (M 1)) (M 2)) (M 3))
        + A 2 * Ideal.exp (M 2 - max (max (max (M 0) (M 1)) (M 2)) (M 3)) + A 3 * Ideal.exp (M 3 - max (max (max (M 0) (M 1)) (M 2)) (M 3)))
      (L 0 * Ideal.exp (M 0 - max (max (max (M 0) (M 1)) (M 2)) (M 3)) + L 1 * Ideal.exp (M 1 - max (max (max (M 0) (M 1)) (M 2)) (M 3))
        + L 2 * Ideal.exp (M 2 - max (max (max (M 0) (M 1)) (M 2)) (M 3)) + L 3 * Ideal.exp (M 3 - max (max (max (M 0) (M 1)) (M 2)) (M 3)))
      = Ideal.div (∑ i, part (w i) (σ i) (v i) μ n) (∑ i, part (w i) (σ i) (fun _ _ => 1) μ n) := by
  choose μ hm hl ha using h
  refine ⟨max (max (max (μ 0) (μ 1)) (μ 2)) (μ 3), ?_⟩
  have hM : max (max (max (M 0) (M 1)) (M 2)) (M 3) = ((max (max (max (μ 0) (μ 1)) (μ 2)) (μ 3) : ℝ) : EReal) := by
    rw [hm, hm, hm, hm, coe_max, coe_max, coe_max]
  rw [hM]
  simp only [hm, exp_sub, ha, hl, part_rescale, Fin.sum_univ_four]

/-! ## The table's rows -/

/-- The page a key of a step lies on, and its place in the page. -/
def pg (z : Fin 4) (n : ℕ) (k : Fin 1024) : Fin 1024 := ⟨(256 * z.val + 32 * n + k.val / 32) % 1024, Nat.mod_lt _ (by decide)⟩
def sl (k : Fin 1024) : Fin 32 := ⟨k.val % 32, Nat.mod_lt _ (by decide)⟩
/-- The entry of the table a key of the whole row stands under, and its place in the page. -/
def ent (k : Fin 8192) : Fin 256 := ⟨k.val / 32, by omega⟩
def plc (k : Fin 8192) : Fin 32 := ⟨k.val % 32, Nat.mod_lt _ (by decide)⟩

/-- How often page `g` stands in the row. -/
def cnt (tb : Fin 256 → Option (Fin 1024)) (g : Fin 1024) : ℝ := ∑ j, if tb j = some g then 1 else 0

def pagesEquiv : (Fin 4 × Fin 8 × Fin 1024) ≃ (Fin 1024 × Fin 32) where
  toFun x := (pg x.1 x.2.1 x.2.2, sl x.2.2)
  invFun y := (⟨y.1.val / 256, by omega⟩, ⟨y.1.val % 256 / 32, by omega⟩, ⟨y.1.val % 32 * 32 + y.2.val, by omega⟩)
  left_inv := by
    rintro ⟨z, n, k⟩
    simp only [pg, sl, Prod.mk.injEq, Fin.ext_iff]
    omega
  right_inv := by
    rintro ⟨g, t⟩
    simp only [pg, sl, Prod.mk.injEq, Fin.ext_iff]
    omega

def keysEquiv : Fin 8192 ≃ (Fin 256 × Fin 32) where
  toFun k := (ent k, plc k)
  invFun y := ⟨y.1.val * 32 + y.2.val, by omega⟩
  left_inv := by
    intro k
    simp only [ent, plc, Fin.ext_iff]
    omega
  right_inv := by
    rintro ⟨j, t⟩
    simp only [ent, plc, Prod.mk.injEq, Fin.ext_iff]
    omega

theorem sum_pages (f : Fin 1024 → Fin 32 → EReal) :
    ∑ z : Fin 4, ∑ n ∈ range 8, ∑ k : Fin 1024, f (pg z n k) (sl k) = ∑ g, ∑ t, f g t := by
  have e : ∀ z : Fin 4, ∑ n ∈ range 8, ∑ k : Fin 1024, f (pg z n k) (sl k)
      = ∑ y : Fin 8 × Fin 1024, f (pg z y.1 y.2) (sl y.2) := fun z => by
    rw [sum_range, Fintype.sum_prod_type]
  rw [sum_congr rfl fun z _ => e z, ← Fintype.sum_prod_type', ← Fintype.sum_prod_type']
  exact Fintype.sum_equiv pagesEquiv _ _ fun x => rfl

theorem sum_keys (f : Fin 256 → Fin 32 → EReal) : ∑ k : Fin 8192, f (ent k) (plc k) = ∑ j, ∑ t, f j t := by
  rw [← Fintype.sum_prod_type']
  exact Fintype.sum_equiv keysEquiv _ _ fun x => rfl

/-- A sum over every page weighted by how often the row names it is the sum over the row. -/
theorem regroup (tb : Fin 256 → Option (Fin 1024)) (f : Fin 1024 → Fin 32 → EReal) :
    ∑ z : Fin 4, ∑ n ∈ range 8, ∑ k : Fin 1024, (cnt tb (pg z n k) : EReal) * f (pg z n k) (sl k)
      = ∑ k : Fin 8192, (tb (ent k)).elim 0 fun g => f g (plc k) := by
  rw [sum_pages fun g t => (cnt tb g : EReal) * f g t, sum_keys fun j t => (tb j).elim 0 fun g => f g t]
  rw [sum_comm, sum_comm (s := (univ : Finset (Fin 256)))]
  refine sum_congr rfl fun t _ => ?_
  unfold cnt
  have e : ∀ g : Fin 1024, ((∑ j, if tb j = some g then 1 else 0 : ℝ) : EReal) * f g t
      = ∑ j, ((if tb j = some g then 1 else 0 : ℝ) : EReal) * f g t := fun g =>
    sum_coe_mul _ _ (fun x => by split <;> norm_num) _
  rw [sum_congr rfl fun g _ => e g, sum_comm]
  refine sum_congr rfl fun j _ => ?_
  cases tb j with
  | none => simp
  | some g =>
    rw [Finset.sum_eq_single g]
    · simp
    · intro b _ hb
      rw [if_neg (fun h => hb (Option.some.inj h).symm)]
      simp
    · exact fun h => absurd (mem_univ g) h

/-! ## The quotient over the row -/

/-- The row's weighted values, and the row's total weight, the exponents taken from `μ`. -/
def numer (tb : Fin 256 → Option (Fin 1024)) (s : Fin 1024 → Fin 32 → ℝ) (v : Fin 1024 → Fin 32 → EReal) (μ : ℝ) : EReal :=
  ∑ k : Fin 8192, (tb (ent k)).elim 0 fun g => ((Real.exp (s g (plc k) - μ) : ℝ) : EReal) * v g (plc k)
def denom (tb : Fin 256 → Option (Fin 1024)) (s : Fin 1024 → Fin 32 → ℝ) (μ : ℝ) : ℝ :=
  ∑ k : Fin 8192, (tb (ent k)).elim 0 fun g => Real.exp (s g (plc k) - μ)

theorem sum_part (tb : Fin 256 → Option (Fin 1024)) (s : Fin 1024 → Fin 32 → ℝ) (v : Fin 1024 → Fin 32 → EReal) (μ : ℝ) :
    ∑ z : Fin 4, part (fun n k => cnt tb (pg z n k)) (fun n k => s (pg z n k) (sl k)) (fun n k => v (pg z n k) (sl k)) μ 8
      = numer tb s v μ := by
  unfold part numer
  rw [← regroup tb fun g t => ((Real.exp (s g t - μ) : ℝ) : EReal) * v g t]
  simp only [EReal.coe_mul, mul_assoc]

theorem numer_one (tb : Fin 256 → Option (Fin 1024)) (s : Fin 1024 → Fin 32 → ℝ) (μ : ℝ) :
    numer tb s (fun _ _ => 1) μ = (denom tb s μ : EReal) := by
  unfold numer denom
  rw [coe_sum]
  refine sum_congr rfl fun k _ => ?_
  cases tb (ent k) <;> simp

theorem denom_pos (tb : Fin 256 → Option (Fin 1024)) (s : Fin 1024 → Fin 32 → ℝ) (μ : ℝ) (k : Fin 8192) (hk : tb (ent k) ≠ none) : 0 < denom tb s μ := by
  unfold denom
  refine sum_pos' (fun x _ => ?_) ⟨k, mem_univ _, ?_⟩
  · cases tb (ent x) with
    | none => rw [Option.elim_none]
    | some g => rw [Option.elim_some]; exact (Real.exp_pos _).le
  · obtain ⟨g, hg⟩ := Option.ne_none_iff_exists'.1 hk
    rw [hg, Option.elim_some]; exact Real.exp_pos _

/-- The quotient does not depend on where the exponents are taken from: both stand over the row's normalized weights. -/
theorem quotient (tb : Fin 256 → Option (Fin 1024)) (s : Fin 1024 → Fin 32 → ℝ) (v : Fin 1024 → Fin 32 → EReal) (μ ν : ℝ) (k : Fin 8192)
    (hk : tb (ent k) ≠ none) : Ideal.div (numer tb s v μ) (denom tb s μ)
      = ∑ k : Fin 8192, (tb (ent k)).elim 0 fun g => ((Real.exp (s g (plc k) - ν) * (denom tb s ν)⁻¹ : ℝ) : EReal) * v g (plc k) := by
  have hd : denom tb s μ = denom tb s ν * Real.exp (ν - μ) := by
    unfold denom
    rw [sum_mul]
    refine sum_congr rfl fun k _ => ?_
    cases tb (ent k) with
    | none => simp
    | some g => rw [Option.elim_some, Option.elim_some, ← Real.exp_add]; congr 1; ring
  have h1 := denom_pos tb s μ k hk
  have h2 := denom_pos tb s ν k hk
  rw [div_coe h1.ne']
  unfold numer
  rw [sum_mul_coe _ (inv_nonneg.2 h1.le)]
  refine sum_congr rfl fun k _ => ?_
  cases tb (ent k) with
  | none => simp
  | some g =>
    rw [Option.elim_some, Option.elim_some, mul_right_comm, ← EReal.coe_mul]
    have e : Real.exp (s g (plc k) - μ) * (denom tb s μ)⁻¹ = Real.exp (s g (plc k) - ν) * (denom tb s ν)⁻¹ := by
      rw [hd, mul_inv, ← mul_assoc, mul_right_comm, ← Real.exp_neg, ← Real.exp_add,
        show s g (plc k) - μ + -(ν - μ) = s g (plc k) - ν by ring]
    rw [e]

/-- The softmax of the masked scores against the values. -/
theorem plain (tb : Fin 256 → Option (Fin 1024)) (s : Fin 1024 → Fin 32 → ℝ) (v : Fin 1024 → Fin 32 → EReal) (S V : Fin 8192 → EReal)
    (hS : ∀ k, S k = (tb (ent k)).elim ⊥ fun g => ((s g (plc k) : ℝ) : EReal)) (hV : ∀ k g, tb (ent k) = some g → V k = v g (plc k))
    (k₀ : Fin 8192) (hk : tb (ent k₀) ≠ none) (μ : ℝ) :
    ∑ k, V k * Ideal.div (Ideal.exp (S k - univ.fold max ⊥ S)) (∑ k, Ideal.exp (S k - univ.fold max ⊥ S))
      = Ideal.div (numer tb s v μ) (denom tb s μ) := by
  obtain ⟨g₀, hg₀⟩ := Option.ne_none_iff_exists'.1 hk
  obtain ⟨ν, hν⟩ := fold_real univ S (fun k => by
    rw [hS]
    cases tb (ent k) with
    | none => exact .inl rfl
    | some g => exact .inr ⟨_, rfl⟩) k₀ (mem_univ _) (s g₀ (plc k₀)) (by rw [hS, hg₀]; rfl)
  have hE : ∀ k, Ideal.exp (S k - univ.fold max ⊥ S) = (((tb (ent k)).elim 0 fun g => Real.exp (s g (plc k) - ν) : ℝ) : EReal) := fun k => by
    rw [hν, hS]
    cases tb (ent k) with
    | none => rw [Option.elim_none, Option.elim_none, EReal.bot_sub]; rfl
    | some g => exact exp_sub _ _
  simp only [hE]
  rw [← coe_sum, quotient tb s v μ ν k₀ hk]
  refine sum_congr rfl fun k _ => ?_
  rw [show (∑ k : Fin 8192, ((tb (ent k)).elim 0 fun g => Real.exp (s g (plc k) - ν) : ℝ)) = denom tb s ν from rfl,
    div_coe (denom_pos tb s ν k₀ hk).ne', ← EReal.coe_mul, mul_comm]
  cases h : tb (ent k) with
  | none => simp
  | some g => rw [hV k g h]; rfl

end Cert.Soft
-- ==== Proof.Reads2.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.First
public import Idealize.ShloMosaic.Lib.Ring.Trips
public import Idealize.ShloMosaic.Lib.Pointwise
public import Idealize.ShloMosaic.Lib.MatmulPlain
public import Idealize.ShloMosaic.PureOps.Ideal.Laws
public import proofs.«01_k».proof.Proof.Reads
public import proofs.«01_k».proof.Proof.Soft

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

/-! # The merge, the start and the key counts, entry by entry -/

theorem mall_at (M : Vec Ideal S32x16 .f32) (wm : Fin 3 → Vec Ideal S32x16 .f32) (r : Fin 32) (h : Fin 16) :
    k0_pay6 M (gWin (stack wm) 0) (gWin (stack wm) 1) (gWin (stack wm) 2) (ix2 r h)
      = max (max (max (M (ix2 r h)) (wm 0 (ix2 r h))) (wm 1 (ix2 r h))) (wm 2 (ix2 r h)) := by
  rw [← gWin_at wm 0, ← gWin_at wm 1, ← gWin_at wm 2]
  pointwise [k0_pay6]

theorem merged_at (M L : Vec Ideal S32x16 .f32) (A : Vec Ideal S32x2048 .f32) (wm wl : Fin 3 → Vec Ideal S32x16 .f32) (wo : Fin 3 → Vec Ideal S32x2048 .bf16) (r : Fin 32) (h : Fin 16) (d : Fin 128)
    (μ : EReal) (hμ : μ = max (max (max (M (ix2 r h)) (wm 0 (ix2 r h))) (wm 1 (ix2 r h))) (wm 2 (ix2 r h))) :
    merged M L A (stack wm) (stack wl) (stack wo) (ix4 r 0 h d)
      = Ideal.div (A (ix2 r (col h d)) * Ideal.exp (M (ix2 r h) - μ) + wo 0 (ix2 r (col h d)) * Ideal.exp (wm 0 (ix2 r h) - μ)
          + wo 1 (ix2 r (col h d)) * Ideal.exp (wm 1 (ix2 r h) - μ) + wo 2 (ix2 r (col h d)) * Ideal.exp (wm 2 (ix2 r h) - μ))
        (L (ix2 r h) * Ideal.exp (M (ix2 r h) - μ) + wl 0 (ix2 r h) * Ideal.exp (wm 0 (ix2 r h) - μ)
          + wl 1 (ix2 r h) * Ideal.exp (wm 1 (ix2 r h) - μ) + wl 2 (ix2 r h) * Ideal.exp (wm 2 (ix2 r h) - μ)) := by
  show mergedHead _ _ _ _ _ (aWin A h) (oWin (stack wo) 0 h) (oWin (stack wo) 1 h) (oWin (stack wo) 2 h) h (at4 r d) = _
  rw [at4_eq, hμ, ← mall_at]
  rw [← gWin_at wm 0, ← gWin_at wm 1, ← gWin_at wm 2, ← gWin_at wl 0, ← gWin_at wl 1, ← gWin_at wl 2,
    ← oWin_at wo 0, ← oWin_at wo 1, ← oWin_at wo 2, ← aWin_at A]
  pointwise [mergedHead, wide, spread, coef0, coef1, coef2, coef3, total, k0_pay7, k0_pay8, k0_pay9, k0_pay10, k0_pay11, k0_pay12]

theorem startM (r : Fin 32) (h : Fin 16) : (k0_pay2 (F := Ideal)) (ix2 r h) = Ideal.ofBits .f32 0xF149F2CA#32 := by
  pointwise [k0_pay2]
theorem startL (r : Fin 32) (h : Fin 16) : (k0_pay3 (F := Ideal)) (ix2 r h) = (0 : EReal) := by
  pointwise [k0_pay3]
theorem startA (r : Fin 32) (d : Fin 2048) : (k0_pay4 (F := Ideal)) (ix2 r d) = (0 : EReal) := by
  pointwise [k0_pay4]
theorem sentA (A : FVec Ideal S32x2048 .f32) (r : Fin 32) (d : Fin 2048) : (k0_pay5 (F := Ideal) A) (ix2 r d) = A (ix2 r d) := by
  pointwise [k0_pay5]

theorem initT_at (bt : Vec Ideal S32x256 .i32) (ln : Vec Ideal S32x1 .i32) (r : Fin 32) (j : Fin 256) :
   initT bt ln (ix2 r j) = Scalar.select (IntOp.cmpi .slt (BitVec.ofNat 32 j.val) (ln (ix2 r 0))) (bt (ix2 r j)) 4294967295#32 := by
  pointwise [initT, k0_pay45]

/-- A key's page number within its step, as the kernel divides it out. -/
theorem page_word : ∀ x : Fin 1024, Scalar.select
                (IntOp.andi
                  (IntOp.cmpi CmpIPredicate.ne
                    (IntOp.subi (BitVec.setWidth 32 (IntOp.cmpi CmpIPredicate.sgt (BitVec.ofNat 32 ↑x) 0#32))
                      (BitVec.setWidth 32 (IntOp.cmpi CmpIPredicate.slt (BitVec.ofNat 32 ↑x) 0#32)))
                    (Scalar.subi (Scalar.extui (Scalar.cmpi CmpIPredicate.sgt 32#32 0#32))
                      (Scalar.extui (Scalar.cmpi CmpIPredicate.slt 32#32 0#32))))
                  (IntOp.cmpi CmpIPredicate.ne (IntOp.remsi ArithUnit.vector (BitVec.ofNat 32 ↑x) 32#32) 0#32))
                (IntOp.subi (IntOp.divsi ArithUnit.vector (BitVec.ofNat 32 ↑x) 32#32) 1#32)
                (IntOp.divsi ArithUnit.vector (BitVec.ofNat 32 ↑x) 32#32) = BitVec.ofNat 32 (kpage x).val := by
  decide +kernel

/-- The first page of a step, as the kernel computes it. -/
theorem base_word : ∀ (c : Dev nD) (t : Fin cfg0.N) (p : Fin 32), IntOp.addi
                  (Scalar.addi (Scalar.muli (Scalar.remsi (Scalar.divsi c.word 1#32) 4#32) 256#32)
                    (Scalar.muli (BitVec.ofNat 32 ↑(grid0.coords t 0)) 32#32))
                  (BitVec.ofNat 32 ↑p) = BitVec.ofNat 32 (256 * (c.val % 4) + 32 * t.val + p.val) := by
  decide +kernel

theorem ind_word (a b : BitVec 32) : (FloatOps.sitofp (F := Ideal) FTy.f32 (BitVec.setWidth 32 (IntOp.cmpi CmpIPredicate.eq a b)) : EReal)
    = ((if a = b then 1 else 0 : ℝ) : EReal) := by
  by_cases h : a = b
  · subst h
    simp [IntOp.cmpi, FloatOps.sitofp]
  · have h' : (a == b) = false := by simpa using h
    simp [IntOp.cmpi, FloatOps.sitofp, h, h']

theorem wkOf_at (t : Fin cfg0.N) (c : Dev nD) (T : Vec Ideal S32x256 .i32) (r : Fin 32) (x : Fin 1024) : wkOf (grid0.coords t) c T (ix2 r x)
    = ((∑ j : Fin 256, if T (ix2 r j) = BitVec.ofNat 32 (256 * (c.val % 4) + 32 * t.val + (kpage x).val) then 1 else 0 : ℝ) : EReal) := by
  pointwise [wkOf, k0_pay49, k0_pay46, k0_pay47, k0_pay48, dot_S32x32_S32x1024_S32x1024_1_0_0_1_n_n]
  simp only [page_word, base_word, ind_word]
  rw [Finset.sum_eq_single (kpage x)]
  · rw [if_pos rfl, EReal.coe_one, mul_one, Cert.Soft.coe_sum]
  · intro b _ hb
    rw [if_neg, EReal.coe_zero, mul_zero]
    intro e
    refine hb (Fin.ext ?_)
    have h1 := congrArg BitVec.toNat e
    simp only [BitVec.toNat_ofNat] at h1
    have := b.isLt
    have := (kpage x).isLt
    omega
  · exact fun h => absurd (Finset.mem_univ _) h
end Cert.Paged
-- ==== Proof.Blocks.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.First
public import Idealize.ShloMosaic.Lib.Ring.Trips
public import Idealize.ShloMosaic.Lib.Pointwise
public import Idealize.ShloMosaic.Lib.MatmulPlain
public import Idealize.ShloMosaic.PureOps.Ideal.Laws
public import proofs.«01_k».proof.Proof.Reads2
public import proofs.«01_k».proof.Proof.Start
public import Idealize.ShloMosaic.Lib.Pipeline.Value

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

/-! # The blocks, the result array -/

variable (m : (ℓ : Loc nD τ sig) → Buf (Elt Ideal) ℓ)

theorem index_0 : ∀ a, (cfg0.win 0).index (pt 0) a = 0 := by decide +kernel
theorem index_3 : ∀ a, (cfg0.win 3).index (pt 0) a = 0 := by decide +kernel
theorem index_4 : ∀ a, (cfg0.win 4).index (pt 0) a = 0 := by decide +kernel
theorem index_5 : ∀ t a, (cfg0.win 5).index t a = 0 := by decide +kernel
theorem index_1 : ∀ n : Fin 8, (cfg0.win 1).index (pt n.val) 0 = n.val := by decide +kernel
theorem index_2 : ∀ n : Fin 8, (cfg0.win 2).index (pt n.val) 0 = n.val := by decide +kernel

theorem qB_eq (c : Dev nD) : qB m c = m ((c : Thread nD τ).loc main_arg0) := by
  funext x
  refine congrArg (m ((c : Thread nD τ).loc main_arg0)) (funext fun a => Fin.ext ?_)
  exact Window.rect_emb_val_of_index_zero (cfg0.win 0) (pt 0) a (index_0 a) x

theorem btB_eq (c : Dev nD) : btB m c = m ((c : Thread nD τ).loc main_arg3) := by
  funext x
  refine congrArg (m ((c : Thread nD τ).loc main_arg3)) (funext fun a => Fin.ext ?_)
  exact Window.rect_emb_val_of_index_zero (cfg0.win 3) (pt 0) a (index_3 a) x

theorem lnB_eq (c : Dev nD) : lnB m c = m ((c : Thread nD τ).loc main_arg4) := by
  funext x
  refine congrArg (m ((c : Thread nD τ).loc main_arg4)) (funext fun a => Fin.ext ?_)
  exact Window.rect_emb_val_of_index_zero (cfg0.win 4) (pt 0) a (index_4 a) x

/-- Page `p` of step `n` in the device's own pages. -/
def own (n : Fin 8) (p : Fin 32) : Fin 256 := ⟨32 * n.val + p.val, by omega⟩

theorem kB_at (c : Dev nD) (n : Fin 8) (p t : Fin 32) (h : Fin 16) (d : Fin 128) :
    kB m c n.val (ix4 p t h d) = m ((c : Thread nD τ).loc main_arg1) (ix4 (own n p) t h d) := by
  refine congrArg (m ((c : Thread nD τ).loc main_arg1)) (funext fun a => Fin.ext ?_)
  have e := Window.rect_emb_val (cfg0.win 1) (pt n.val) (ix4 p t h d) a rfl
  refine Eq.trans e ?_
  exact match a with
  | 0 => (by
    have := index_1 n
    rw [this]
    show n.val * 32 + p.val = 32 * n.val + p.val
    omega)
  | 1 => (by show 0 * 32 + t.val = t.val; omega)
  | 2 => (by show 0 * 16 + h.val = h.val; omega)
  | 3 => (by show 0 * 128 + d.val = d.val; omega)

theorem vB_at (c : Dev nD) (n : Fin 8) (p t : Fin 32) (h : Fin 16) (d : Fin 128) :
    vB m c n.val (ix4 p t h d) = m ((c : Thread nD τ).loc main_arg2) (ix4 (own n p) t h d) := by
  refine congrArg (m ((c : Thread nD τ).loc main_arg2)) (funext fun a => Fin.ext ?_)
  have e := Window.rect_emb_val (cfg0.win 2) (pt n.val) (ix4 p t h d) a rfl
  refine Eq.trans e ?_
  exact match a with
  | 0 => (by
    have := index_2 n
    rw [this]
    show n.val * 32 + p.val = 32 * n.val + p.val
    omega)
  | 1 => (by show 0 * 32 + t.val = t.val; omega)
  | 2 => (by show 0 * 16 + h.val = h.val; omega)
  | 3 => (by show 0 * 128 + d.val = d.val; omega)

/-- The result's one block is the whole array. -/
theorem emb_result (t : Fin cfg0.N) (y : S32x1x16x128.Idx) : ((cfg0.win 5).rect t).emb y = y :=
  funext fun a => Fin.ext (Window.rect_emb_val_of_index_zero (cfg0.win 5) t a (index_5 t a) y)

theorem flush_last : (cfg0.win 5).flush (pt 7) = true := by decide +kernel

theorem result_eq (c : Dev nD) : finalA m c 5 = outC m c := by
  refine (dats m 0 c).arrAt_eq_of_cover 5 (outC m c) (fun t hf => ?_) (fun i => ⟨pt 7, flush_last, ?_⟩)
  · funext y
    exact congrArg (outC m c) (emb_result t y).symm
  · have := ((cfg0.win 5).blk (pt 7)).view.emb_mem_set (show S32x1x16x128.Idx from i)
    exact (emb_result (pt 7) i) ▸ this
end Cert.Paged
-- ==== Proof.Setup.lean ====
module

public import proofs.«01_k».proof.Proof.Soft

@[expose] public section

noncomputable section

namespace Cert.Setup

open Idealize.ShloMosaic
open Cert.Soft

/-! # The scores and the row of pages both programs work on -/

/-- The scores' scale, the inverse root of the heads' depth. -/
def scale : ℝ := (Real.sqrt 128)⁻¹

/-- Dividing by the root of the depth's word is multiplying by the scale. -/
theorem div_root (x : ℝ) : Ideal.div (x : EReal) (Ideal.sqrt (Ideal.ofBits FTy.f32 1124073472#32)) = ((x * scale : ℝ) : EReal) := by
  have e : Ideal.ofBits FTy.f32 1124073472#32 = ((128 : ℝ) : EReal) := by
    simp [Ideal.ofBits, Ideal.ieee, -EReal.coe_mul]
    norm_num
  rw [e, Ideal.sqrt_coe, if_neg (by norm_num), div_coe (Real.sqrt_pos.mpr (by norm_num)).ne', EReal.coe_mul]
  rfl

/-- The word of the masked scores is the bottom element. -/
theorem bottom_word : Ideal.ofBits FTy.f32 4286578688#32 = (⊥ : EReal) := by
  simp [Ideal.ofBits, Ideal.ieee]

/-- The running maximum's first word is a real number. -/
theorem start_real : ∃ κ : ℝ, Ideal.ofBits FTy.f32 0xF149F2CA#32 = (κ : EReal) := by
  refine ⟨(Ideal.ofBits FTy.f32 0xF149F2CA#32).toReal, (EReal.coe_toReal ?_ ?_).symm⟩
  · simp [Ideal.ofBits, Ideal.ieee]
    exact_mod_cast EReal.coe_ne_bot ((13234890 : ℝ) * 2 ^ 76)
  · simp [Ideal.ofBits, Ideal.ieee]
    exact_mod_cast EReal.coe_ne_top ((13234890 : ℝ) * 2 ^ 76)

/-- The bound of the finite arguments is the top element. -/
theorem top_word : Ideal.ofBits FTy.f32 0x7F800000#32 = (⊤ : EReal) := by
  simp [Ideal.ofBits, Ideal.ieee]

/-- The scores of one row and head. -/
def score (q : Fin 128 → ℝ) (k : Fin 1024 → Fin 32 → Fin 128 → ℝ) (g : Fin 1024) (t : Fin 32) : ℝ := ∑ d, q d * scale * k g t d

/-- The pages of one row: the entries below the row's length. -/
def pages (bt : Fin 256 → BitVec 32) (ln : BitVec 32) (j : Fin 256) : Option (Fin 1024) :=
  if IntOp.cmpi .slt (BitVec.ofNat 32 j.val) ln = 1#1 then some ⟨(bt j).toNat % 1024, Nat.mod_lt _ (by decide)⟩ else none

/-- The entries below the row's length are page numbers. -/
def Named (bt : Fin 256 → BitVec 32) (ln : BitVec 32) : Prop :=
  ∀ j : Fin 256, IntOp.cmpi .slt (BitVec.ofNat 32 j.val) ln = 1#1 → (bt j).toNat < 1024

/-- The masked table holds the number of page `g` exactly where the row names `g`. -/
theorem masked_eq (bt : Fin 256 → BitVec 32) (ln : BitVec 32) (h : Named bt ln) (j : Fin 256) (g : Fin 1024) :
    Scalar.select (IntOp.cmpi .slt (BitVec.ofNat 32 j.val) ln) (bt j) 4294967295#32 = BitVec.ofNat 32 g.val ↔ pages bt ln j = some g := by
  have hg := g.isLt
  unfold pages Scalar.select
  by_cases hc : IntOp.cmpi .slt (BitVec.ofNat 32 j.val) ln = 1#1
  · have hb := h j hc
    rw [if_pos hc, hc]
    simp only [Option.some.injEq, Fin.ext_iff, ← BitVec.toNat_inj, BitVec.toNat_ofNat]
    simp
    omega
  · have hc' : ¬ IntOp.cmpi .slt (BitVec.ofNat 32 j.val) ln = 1 := hc
    rw [if_neg hc', if_neg hc]
    simp [← BitVec.toNat_inj, BitVec.toNat_ofNat]
    omega

theorem count_eq (bt : Fin 256 → BitVec 32) (ln : BitVec 32) (h : Named bt ln) (g : Fin 1024) :
    (∑ j : Fin 256, if Scalar.select (IntOp.cmpi .slt (BitVec.ofNat 32 j.val) ln) (bt j) 4294967295#32 = BitVec.ofNat 32 g.val then 1 else 0 : ℝ)
      = cnt (pages bt ln) g := by
  unfold cnt
  refine Finset.sum_congr rfl fun j _ => ?_
  exact if_congr (masked_eq bt ln h j g) rfl rfl

/-- A row of length at least one names a page under its first entry. -/
theorem first_named (bt : Fin 256 → BitVec 32) (ln : BitVec 32) (h : IntOp.cmpi .sge ln 1#32 = 1#1) : pages bt ln 0 ≠ none := by
  have e : IntOp.cmpi .slt (BitVec.ofNat 32 (0 : Fin 256).val) ln = 1#1 := by
    simp only [IntOp.cmpi] at h ⊢
    have hb : ∀ b : Bool, BitVec.ofBool b = 1#1 ↔ b = true := by decide
    rw [hb] at h ⊢
    rw [BitVec.sle_iff_toInt_le] at h
    rw [BitVec.slt_iff_toInt_lt]
    have e1 : (1#32).toInt = 1 := by decide
    have e0 : (BitVec.ofNat 32 (0 : Fin 256).val).toInt = 0 := by decide
    omega
  unfold pages
  rw [if_pos e]
  exact Option.some_ne_none _

end Cert.Setup

end
-- ==== Proof.Value.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Pipeline.ReadBack
public import Idealize.ShloMosaic.Lib.Ring
public import proofs.«01_k».proof.Proof.First
public import Idealize.ShloMosaic.Lib.Ring.Trips
public import Idealize.ShloMosaic.Lib.Pointwise
public import Idealize.ShloMosaic.Lib.MatmulPlain
public import Idealize.ShloMosaic.PureOps.Ideal.Laws
public import proofs.«01_k».proof.Proof.Blocks
public import proofs.«01_k».proof.Proof.Setup

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

open Cert.Soft Cert.Setup

/-! # The kernel's result as one quotient over the whole row -/

variable (m : (ℓ : Loc nD τ sig) → Buf (Elt Ideal) ℓ)

/-- The part of the pages a device holds. -/
def zc (c : Dev nD) : Fin 4 := ⟨c.val % 4, Nat.mod_lt _ (by decide)⟩
/-- A device's own page, numbered in the whole array. -/
def whole (z : Fin 4) (g : Fin 256) : Fin 1024 := ⟨256 * z.val + g.val, by omega⟩

/-- What the devices' arguments are: real queries and keys, any values, one table and the lengths, the same everywhere. -/
structure Holds (q : Fin 32 → Fin 16 → Fin 128 → ℝ) (k : Fin 1024 → Fin 32 → Fin 16 → Fin 128 → ℝ) (v : Fin 1024 → Fin 32 → Fin 16 → Fin 128 → EReal)
    (bt : Fin 32 → Fin 256 → BitVec 32) (ln : Fin 32 → BitVec 32) : Prop where
  hq : ∀ (c : Dev nD) r h d, (m ((c : Thread nD τ).loc main_arg0) : Vec Ideal S32x1x16x128 .f32) (ix4 r 0 h d) = (q r h d : EReal)
  hk : ∀ (c : Dev nD) g t h d, (m ((c : Thread nD τ).loc main_arg1) : Vec Ideal S256x32x16x128 .f32) (ix4 g t h d) = (k (whole (zc c) g) t h d : EReal)
  hv : ∀ (c : Dev nD) g t h d, (m ((c : Thread nD τ).loc main_arg2) : Vec Ideal S256x32x16x128 .f32) (ix4 g t h d) = v (whole (zc c) g) t h d
  hb : ∀ (c : Dev nD) r j, (m ((c : Thread nD τ).loc main_arg3) : Vec Ideal S32x256 .i32) (ix2 r j) = bt r j
  hl : ∀ (c : Dev nD) r, (m ((c : Thread nD τ).loc main_arg4) : Vec Ideal S32x1 .i32) (ix2 r 0) = ln r
  hn : ∀ r, Named (bt r) (ln r)

variable {m} {q : Fin 32 → Fin 16 → Fin 128 → ℝ} {k : Fin 1024 → Fin 32 → Fin 16 → Fin 128 → ℝ} {v : Fin 1024 → Fin 32 → Fin 16 → Fin 128 → EReal}
    {bt : Fin 32 → Fin 256 → BitVec 32} {ln : Fin 32 → BitVec 32} (H : Holds m q k v bt ln)

theorem whole_own (z : Fin 4) (n : Fin 8) (x : Fin 1024) : whole z (own n (kpage x)) = pg z n.val x :=
  Fin.ext (by
    show 256 * z.val + (32 * n.val + x.val / 32) = (256 * z.val + 32 * n.val + x.val / 32) % 1024
    omega)

include H in
theorem sc_real (c : Dev nD) (n : Fin 8) (r : Fin 32) (h : Fin 16) (x : Fin 1024) : sc (qB m c) (kB m c n.val) r h x
    = ((Setup.score (q r h) (fun g t d => k g t h d) (pg (zc c) n.val x) (sl x) : ℝ) : EReal) := by
  unfold sc Setup.score
  rw [Cert.Soft.coe_sum]
  refine Finset.sum_congr rfl fun d _ => ?_
  have e1 := H.hq c r h d
  have e2 := (kB_at m c n (kpage x) (kslot x) h d).trans (H.hk c (own n (kpage x)) (kslot x) h d)
  rw [qB_eq, e1, e2, whole_own, EReal.coe_mul, EReal.coe_mul]
  rfl

include H in
theorem val_at (c : Dev nD) (n : Fin 8) (h : Fin 16) (d : Fin 128) (x : Fin 1024) :
    vB m c n.val (ix4 (kpage x) (kslot x) h d) = v (pg (zc c) n.val x) (sl x) h d := by
  have e2 := (vB_at m c n (kpage x) (kslot x) h d).trans (H.hv c (own n (kpage x)) (kslot x) h d)
  rw [e2, whole_own]
  rfl

include H in
theorem wk_real (c : Dev nD) (n : Fin 8) (r : Fin 32) (x : Fin 1024) : wkOf (grid0.coords (pt n.val)) c (tabB m c) (ix2 r x)
    = ((cnt (pages (bt r) (ln r)) (pg (zc c) n.val x) : ℝ) : EReal) := by
  rw [wkOf_at, ← count_eq _ _ (H.hn r)]
  refine congrArg Real.toEReal (Finset.sum_congr rfl fun j _ => if_congr ?_ rfl rfl)
  have e : (tabB m c : Vec Ideal S32x256 .i32) (ix2 r j) = Scalar.select (IntOp.cmpi .slt (BitVec.ofNat 32 j.val) (ln r)) (bt r j) 4294967295#32 := by
    show initT (btB m c) (lnB m c) (ix2 r j) = _
    rw [initT_at, btB_eq, lnB_eq, H.hb, H.hl]
  have e' : 256 * (c.val % 4) + 32 * (pt n.val).val + (kpage x).val = (pg (zc c) n.val x).val := by
    show 256 * (c.val % 4) + 32 * (n.val % 8) + x.val / 32 = (256 * (c.val % 4) + 32 * n.val + x.val / 32) % 1024
    omega
  rw [e, e']

include H in
/-- A device's running maximum and sums after its last step. -/
theorem device_sums (c : Dev nD) (r : Fin 32) (h : Fin 16) (d : Fin 128) : ∃ μ : ℝ, stM m c 8 (ix2 r h) = (μ : EReal)
    ∧ stL m c 8 (ix2 r h) = part (fun n x => cnt (pages (bt r) (ln r)) (pg (zc c) n x))
        (fun n x => Setup.score (q r h) (fun g t d => k g t h d) (pg (zc c) n x) (sl x)) (fun _ _ => 1) μ 8
    ∧ stA m c 8 (ix2 r (col h d)) = part (fun n x => cnt (pages (bt r) (ln r)) (pg (zc c) n x))
        (fun n x => Setup.score (q r h) (fun g t d => k g t h d) (pg (zc c) n x) (sl x)) (fun n x => v (pg (zc c) n x) (sl x) h d) μ 8 := by
  refine running _ _ _ (fun n => stM m c n (ix2 r h)) (fun n => stL m c n (ix2 r h)) (fun n => stA m c n (ix2 r (col h d))) 8
    ?_ ?_ ?_ ?_ ?_ ?_ 8 le_rfl
  · obtain ⟨a, ha⟩ := start_real
    exact ⟨a, (startM r h).trans ha⟩
  · exact startL r h
  · exact startA r (col h d)
  · intro n hn
    have e := (newM_at (qB m c) (kB m c n) (stM m c n) h r).trans (mNext_at (qB m c) (kB m c n) (stM m c n) h r)
    rw [bottom_word] at e
    refine e.trans ?_
    exact congrArg (fun f : Fin 1024 → EReal => max (stM m c n (ix2 r h)) (Finset.univ.fold max ⊥ f)) (funext fun x => sc_real H c ⟨n, hn⟩ r h x)
  · intro n hn
    refine (newL_at (grid0.coords (pt n)) c (qB m c) (kB m c n) (stM m c n) (stL m c n) (tabB m c) h r).trans ?_
    refine congrArg (fun y : EReal => _ + y) (Finset.sum_congr rfl fun x _ => ?_)
    rw [wk_real H c ⟨n, hn⟩ r x, sc_real H c ⟨n, hn⟩ r h x]
    rfl
  · intro n hn
    refine (newA_at (grid0.coords (pt n)) c (qB m c) (kB m c n) (vB m c n) (stM m c n) (stA m c n) (tabB m c) h r d).trans ?_
    refine congrArg (fun y : EReal => _ + y) (Finset.sum_congr rfl fun x _ => ?_)
    rw [wk_real H c ⟨n, hn⟩ r x, sc_real H c ⟨n, hn⟩ r h x, val_at H c ⟨n, hn⟩ h d x]
    rfl

/-- The four devices whose sums a device merges, its own first. -/
def four (c : Dev nD) : Fin 4 → Dev nD := ![c, po c 0, po c 1, po c 2]

theorem four_parts : ∀ c : Dev nD, Function.Bijective fun i => zc (four c i) := by decide +kernel

include H in
/-- The kernel's result at one entry. -/
theorem outC_at (c : Dev nD) (r : Fin 32) (h : Fin 16) (d : Fin 128) : ∃ μ : ℝ, outC m c (ix4 r 0 h d)
    = Ideal.div (numer (pages (bt r) (ln r)) (Setup.score (q r h) (fun g t d => k g t h d)) (fun g t => v g t h d) μ)
        (denom (pages (bt r) (ln r)) (Setup.score (q r h) (fun g t d => k g t h d)) μ : EReal) := by
  obtain ⟨μ, e⟩ := merge4 (fun i n x => cnt (pages (bt r) (ln r)) (pg (zc (four c i)) n x))
    (fun i n x => Setup.score (q r h) (fun g t d => k g t h d) (pg (zc (four c i)) n x) (sl x))
    (fun i n x => v (pg (zc (four c i)) n x) (sl x) h d)
    (fun i => stM m (four c i) 8 (ix2 r h)) (fun i => stL m (four c i) 8 (ix2 r h)) (fun i => stA m (four c i) 8 (ix2 r (col h d))) 8
    (fun i => device_sums H (four c i) r h d)
  refine ⟨μ, ?_⟩
  have s1 := (four_parts c).sum_comp fun z => part (fun n x => cnt (pages (bt r) (ln r)) (pg z n x))
    (fun n x => Setup.score (q r h) (fun g t d => k g t h d) (pg z n x) (sl x)) (fun n x => v (pg z n x) (sl x) h d) μ 8
  have s2 := (four_parts c).sum_comp fun z => part (fun n x => cnt (pages (bt r) (ln r)) (pg z n x))
    (fun n x => Setup.score (q r h) (fun g t d => k g t h d) (pg z n x) (sl x)) (fun _ _ => 1) μ 8
  have t1 := sum_part (pages (bt r) (ln r)) (Setup.score (q r h) (fun g t d => k g t h d)) (fun g t => v g t h d) μ
  have t2 := sum_part (pages (bt r) (ln r)) (Setup.score (q r h) (fun g t d => k g t h d)) (fun _ _ => 1) μ
  rw [s1.trans t1, s2.trans t2, numer_one] at e
  refine Eq.trans ?_ e
  refine (merged_at (stM m c 8) (stL m c 8) (stA m c 8) (fun d => stM m (po c d) 8) (fun d => stL m (po c d) 8) (fun d => k0_pay5 (stA m (po c d) 8)) r h d _ rfl).trans ?_
  rw [sentA, sentA, sentA]
  rfl

end Cert.Paged
-- ==== Proof.RefReads.lean ====
module

public import proofs.«01_k».proof.Proof.Gen.ReferenceIdeal
public import proofs.«01_k».proof.Proof.Gen.ReferenceIdeal.Run
public import Idealize.ShloMosaic.Lib.Pointwise
public import proofs.«01_k».proof.Proof.Soft
public import Idealize.ShloMosaic.PureOps.Ideal.Laws

@[expose] public section

noncomputable section

namespace Cert.PagedRef

open Cert.ReferenceIdeal Cert.ReferenceIdeal.Gen Cert.ReferenceIdeal.Value
open Idealize.ShloMosaic
open Idealize.ShloMosaic.TcCoe

/-! # The reference's value, entry by entry -/

open Cert.Soft (ent plc)

theorem gather_at {α : Type} (x : S1024x32x16x128.Idx → α) (idx : IVec S32x256x1 32) (r : Fin 32) (j : Fin 256) (t : Fin 32) (h : Fin 16) (d : Fin 128) :
    Host.gather gather_S1024x32x16x128_S32x256x1_S32x256x32x16x128_234_0_n_n_0_2_13216128 x idx (ix5 r j t h d)
      = x (ix4 ⟨min (idx (ix3 r j 0)).toInt.toNat 1023, by omega⟩ t h d) := by
  unfold Host.gather
  congr 1
  funext a
  refine Fin.ext ?_
  match a with
  | 0 =>
    have hsi : (gather_S1024x32x16x128_S32x256x1_S32x256x32x16x128_234_0_n_n_0_2_13216128).siIdx (ix5 r j t h d) ⟨0, by decide⟩ = ix3 r j 0 := by
      funext b; exact match b with
        | 0 => rfl
        | 1 => rfl
        | 2 => rfl
    exact Eq.trans rfl (congrArg (fun z => min (idx z).toInt.toNat 1023) hsi)
  | 1 => exact Nat.zero_add _
  | 2 => exact Nat.zero_add _
  | 3 => exact Nat.zero_add _

def idxW (bt : Vec Ideal S32x256 .i32) (r : Fin 32) (j : Fin 256) : BitVec 32 :=
  Scalar.select (IntOp.cmpi .slt (bt (ix2 r j)) 0#32) (IntOp.addi (bt (ix2 r j)) 1024#32) (bt (ix2 r j))

theorem idx_at (bt : Vec Ideal S32x256 .i32) (r : Fin 32) (j : Fin 256) :
    (broadcastInDim S32x256x1 ![0, 1] bcast_S32x256_S32x256x1_0_1 (select (cmpi .slt bt (broadcastInDim S32x256 ![] bcast_S_S32x256 (constantI S_ 32 0#32))) (addi bt (broadcastInDim S32x256 ![] bcast_S_S32x256 (constantI S_ 32 1024#32))) bt)) (ix3 r j 0) = idxW bt r j := by
  pointwise [idxW]

/-- The page a key of the row is read from. -/
def row (bt : Vec Ideal S32x256 .i32) (r : Fin 32) (j : Fin 256) : Fin 1024 := ⟨min (idxW bt r j).toInt.toNat 1023, by omega⟩

/-- A key's entry of the page table, as the reference divides it out. -/
theorem ent_word : ∀ x : Fin 8192, Scalar.select
                      (IntOp.andi
                        (IntOp.cmpi CmpIPredicate.ne
                          (if BitVec.ofNat 32 ↑x = 0 then (0 : BitVec 32) else if (BitVec.ofNat 32 ↑x).msb = true then -1 else 1)
                          (if 32#32 = 0 then (0 : BitVec 32)
                          else if (32#32).msb = true then -1 else 1))
                        (IntOp.cmpi CmpIPredicate.ne
                          (IntOp.remsi ArithUnit.host (BitVec.ofNat 32 ↑x) 32#32) 0#32))
                      (IntOp.subi (IntOp.divsi ArithUnit.host (BitVec.ofNat 32 ↑x) 32#32)
                        1#32)
                      (IntOp.divsi ArithUnit.host (BitVec.ofNat 32 ↑x) 32#32) = BitVec.ofNat 32 (ent x).val := by
  decide +kernel

/-- The keys' entries of the page table, as the reference's program divides them out. -/
abbrev entries : IVec S1x8192 32 :=
  (select (andi (cmpi .ne (signi (broadcastInDim S1x8192 ![1] bcast_S8192_S1x8192_1 (iotaInDim S8192 32 0))) (broadcastInDim S1x8192 ![] bcast_S_S1x8192 (signi (id (constantI S_ 32 32#32))))) (cmpi .ne (Host.remsi (broadcastInDim S1x8192 ![1] bcast_S8192_S1x8192_1 (iotaInDim S8192 32 0)) (broadcastInDim S1x8192 ![] bcast_S_S1x8192 (id (constantI S_ 32 32#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 32#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 32#32)))))

theorem entries_at (x : Fin 8192) : entries (ix2 0 x) = BitVec.ofNat 32 (ent x).val := by
  unfold entries
  pointwise
  exact ent_word x

/-- The masked score of key `x` of row `r`, head `h`. -/
def rs (Q : Vec Ideal S32x1x16x128 .f32) (K : Vec Ideal S1024x32x16x128 .f32) (bt : Vec Ideal S32x256 .i32) (ln : Vec Ideal S32x1 .i32) (r : Fin 32) (h : Fin 16) (x : Fin 8192) : EReal :=
  Scalar.select (IntOp.cmpi .slt (BitVec.ofNat 32 (ent x).val) (ln (ix2 r 0)))
    (Ideal.div (∑ d : Fin 128, Q (ix4 r 0 h d) * K (ix4 (row bt r (ent x)) (plc x) h d)) (Ideal.sqrt (Ideal.ofBits FTy.f32 1124073472#32))) (Ideal.ofBits FTy.f32 4286578688#32)

theorem word_id : (id (constantI S_ 32 32#32) ix0 : BitVec 32) = 32#32 := rfl
theorem bot_id : (id (constant (F := Ideal) S_ FTy.f32 4286578688#32) ix0 : EReal) = Ideal.ofBits FTy.f32 4286578688#32 := rfl

theorem ref_apply (m : (ℓ : Loc nD τ sig) → Buf (Elt Ideal) ℓ) (c : Dev nD) (r : Fin 32) (h : Fin 16) (d : Fin 128)
    (Q : Vec Ideal S32x1x16x128 .f32) (K V : Vec Ideal S1024x32x16x128 .f32) (bt : Vec Ideal S32x256 .i32) (ln : Vec Ideal S32x1 .i32)
    (hQ : m (c.tc.loc main_arg0) = Q) (hK : m (c.tc.loc main_arg1) = K) (hV : m (c.tc.loc main_arg2) = V) (hb : m (c.tc.loc main_arg3) = bt) (hl : m (c.tc.loc main_arg4) = ln) :
   res_main_v38 m c (ix4 r 0 h d) = ∑ x, V (ix4 (row bt r (ent x)) (plc x) h d)
     * Ideal.div (Ideal.exp (rs Q K bt ln r h x - Finset.univ.fold max (Ideal.ofBits FTy.f32 4286578688#32) (rs Q K bt ln r h)))
       (∑ x, Ideal.exp (rs Q K bt ln r h x - Finset.univ.fold max (Ideal.ofBits FTy.f32 4286578688#32) (rs Q K bt ln r h))) := by
  unfold res_main_v38
  rw [hQ, hK, hV, hb, hl]
  have hI : ∀ j, (broadcastInDim S32x256x1 ![0, 1] bcast_S32x256_S32x256x1_0_1 (select (cmpi .slt bt (broadcastInDim S32x256 ![] bcast_S_S32x256 (constantI S_ 32 0#32))) (addi bt (broadcastInDim S32x256 ![] bcast_S_S32x256 (constantI S_ 32 1024#32))) bt)) (ix3 r j 0) = idxW bt r j := idx_at bt r
  have hW : ∀ x : Fin 8192, (select (andi (cmpi .ne (signi (broadcastInDim S1x8192 ![1] bcast_S8192_S1x8192_1 (iotaInDim S8192 32 0))) (broadcastInDim S1x8192 ![] bcast_S_S1x8192 (signi (id (constantI S_ 32 32#32))))) (cmpi .ne (Host.remsi (broadcastInDim S1x8192 ![1] bcast_S8192_S1x8192_1 (iotaInDim S8192 32 0)) (broadcastInDim S1x8192 ![] bcast_S_S1x8192 (id (constantI S_ 32 32#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 32#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 32#32))))) (ix2 0 x) = BitVec.ofNat 32 (ent x).val := entries_at
  generalize (select (andi (cmpi .ne (signi (broadcastInDim S1x8192 ![1] bcast_S8192_S1x8192_1 (iotaInDim S8192 32 0))) (broadcastInDim S1x8192 ![] bcast_S_S1x8192 (signi (id (constantI S_ 32 32#32))))) (cmpi .ne (Host.remsi (broadcastInDim S1x8192 ![1] bcast_S8192_S1x8192_1 (iotaInDim S8192 32 0)) (broadcastInDim S1x8192 ![] bcast_S_S1x8192 (id (constantI S_ 32 32#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 32#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 32#32))))) = W at hW ⊢
  generalize broadcastInDim S32x256x1 ![0, 1] bcast_S32x256_S32x256x1_0_1 (select (cmpi .slt bt (broadcastInDim S32x256 ![] bcast_S_S32x256 (constantI S_ 32 0#32))) (addi bt (broadcastInDim S32x256 ![] bcast_S_S32x256 (constantI S_ 32 1024#32))) bt) = I at hI ⊢
  pointwise [dot_S32x1x16x128_S32x8192x16x128_S32x16x1x8192_3_3_1_1_02_02, dot_S32x8192x16x128_S32x16x1x8192_S32x16x128x1_1_3_3_2_02_01]
  simp only [gather_at, hI, hW, bot_id]
  have e' : rs Q K bt ln r h = fun x : Fin 8192 => Scalar.select (IntOp.cmpi .slt (BitVec.ofNat 32 (ent x).val) (ln (ix2 r 0)))
    (Ideal.div (∑ d : Fin 128, Q (ix4 r 0 h d) * K (ix4 (row bt r (ent x)) (plc x) h d)) (Ideal.sqrt (Ideal.ofBits FTy.f32 1124073472#32))) (Ideal.ofBits FTy.f32 4286578688#32) := rfl
  rw [e']
  simp only [row, ent, plc]
end Cert.PagedRef
-- ==== Proof.RefValue.lean ====
module

public import proofs.«01_k».proof.Proof.Gen.ReferenceIdeal
public import proofs.«01_k».proof.Proof.Gen.ReferenceIdeal.Run
public import Idealize.ShloMosaic.Lib.Pointwise
public import proofs.«01_k».proof.Proof.RefReads
public import proofs.«01_k».proof.Proof.Setup
public import Idealize.ShloMosaic.PureOps.Ideal.Laws

@[expose] public section

noncomputable section

namespace Cert.PagedRef

open Cert.ReferenceIdeal Cert.ReferenceIdeal.Gen Cert.ReferenceIdeal.Value
open Idealize.ShloMosaic
open Idealize.ShloMosaic.TcCoe

/-! # The reference's result as one quotient over the whole row -/

open Cert.Soft Cert.Setup

/-- A page number is read as it stands. -/
theorem row_named (bt : Vec Ideal S32x256 .i32) (r : Fin 32) (j : Fin 256) (hb : (bt (ix2 r j)).toNat < 1024) :
    row bt r j = ⟨(bt (ix2 r j)).toNat % 1024, Nat.mod_lt _ (by decide)⟩ := by
  have hi : (bt (ix2 r j)).toInt = (bt (ix2 r j)).toNat := BitVec.toInt_eq_toNat_of_lt (by omega)
  have hs : IntOp.cmpi .slt (bt (ix2 r j)) 0#32 ≠ (1 : BitVec 1) := by
    have hb : ∀ b : Bool, BitVec.ofBool b = (1 : BitVec 1) ↔ b = true := by decide
    simp only [IntOp.cmpi]
    rw [Ne, hb, BitVec.slt_iff_toInt_lt, hi]
    have : (0#32).toInt = 0 := by decide
    omega
  have e : idxW bt r j = bt (ix2 r j) := by
    unfold idxW Scalar.select
    rw [if_neg hs]
  refine Fin.ext ?_
  show min (idxW bt r j).toInt.toNat 1023 = _
  rw [e, hi]
  show min (bt (ix2 r j)).toNat 1023 = (bt (ix2 r j)).toNat % 1024
  omega

variable {q : Fin 32 → Fin 16 → Fin 128 → ℝ} {k : Fin 1024 → Fin 32 → Fin 16 → Fin 128 → ℝ} {v : Fin 1024 → Fin 32 → Fin 16 → Fin 128 → EReal}

theorem dot_real (Q : Vec Ideal S32x1x16x128 .f32) (K : Vec Ideal S1024x32x16x128 .f32)
    (hq : ∀ r h d, Q (ix4 r 0 h d) = (q r h d : EReal)) (hk : ∀ g t h d, K (ix4 g t h d) = (k g t h d : EReal))
    (r : Fin 32) (h : Fin 16) (g : Fin 1024) (t : Fin 32) :
    Ideal.div (∑ d : Fin 128, Q (ix4 r 0 h d) * K (ix4 g t h d)) (Ideal.sqrt (Ideal.ofBits FTy.f32 1124073472#32))
      = ((Setup.score (q r h) (fun g t d => k g t h d) g t : ℝ) : EReal) := by
  have e : ∀ d : Fin 128, Q (ix4 r 0 h d) * K (ix4 g t h d) = ((q r h d * k g t h d : ℝ) : EReal) := fun d => by
    rw [hq, hk, EReal.coe_mul]
  rw [Finset.sum_congr rfl fun d _ => e d, ← Cert.Soft.coe_sum, div_root]
  refine congrArg Real.toEReal ?_
  unfold Setup.score
  rw [Finset.sum_mul]
  exact Finset.sum_congr rfl fun d _ => by ring

theorem ref_at (m : (ℓ : Loc nD τ sig) → Buf (Elt Ideal) ℓ) (c : Dev nD) (r : Fin 32) (h : Fin 16) (d : Fin 128)
    (Q : Vec Ideal S32x1x16x128 .f32) (K V : Vec Ideal S1024x32x16x128 .f32) (bt : Vec Ideal S32x256 .i32) (ln : Vec Ideal S32x1 .i32)
    (hQ : m (c.tc.loc main_arg0) = Q) (hK : m (c.tc.loc main_arg1) = K) (hV : m (c.tc.loc main_arg2) = V) (hb : m (c.tc.loc main_arg3) = bt) (hl : m (c.tc.loc main_arg4) = ln)
    (hq : ∀ r h d, Q (ix4 r 0 h d) = (q r h d : EReal)) (hk : ∀ g t h d, K (ix4 g t h d) = (k g t h d : EReal)) (hv : ∀ g t h d, V (ix4 g t h d) = v g t h d)
    (hn : Named (fun j => bt (ix2 r j)) (ln (ix2 r 0))) (h1 : IntOp.cmpi .sge (ln (ix2 r 0)) 1#32 = 1#1) (μ : ℝ) :
    res_main_v38 m c (ix4 r 0 h d)
      = Ideal.div (numer (pages (fun j => bt (ix2 r j)) (ln (ix2 r 0))) (Setup.score (q r h) (fun g t d => k g t h d)) (fun g t => v g t h d) μ)
          (denom (pages (fun j => bt (ix2 r j)) (ln (ix2 r 0))) (Setup.score (q r h) (fun g t d => k g t h d)) μ : EReal) := by
  refine (ref_apply m c r h d Q K V bt ln hQ hK hV hb hl).trans ?_
  rw [bottom_word]
  refine plain _ _ _ (rs Q K bt ln r h) (fun x => V (ix4 (row bt r (ent x)) (plc x) h d)) (fun x => ?_) (fun x g hg => ?_) ⟨0, by decide⟩ ?_ μ
  · unfold rs
    by_cases hc : IntOp.cmpi .slt (BitVec.ofNat 32 (ent x).val) (ln (ix2 r 0)) = 1#1
    · rw [dot_real Q K hq hk, row_named bt r (ent x) (hn _ hc)]
      unfold pages Scalar.select
      have hc' : IntOp.cmpi .slt (BitVec.ofNat 32 (ent x).val) (ln (ix2 r 0)) = 1 := hc
      rw [if_pos hc, if_pos hc', Option.elim_some]
    · unfold pages Scalar.select
      have hc' : ¬ IntOp.cmpi .slt (BitVec.ofNat 32 (ent x).val) (ln (ix2 r 0)) = 1 := hc
      rw [if_neg hc, if_neg hc', Option.elim_none, bottom_word]
  · have hc : IntOp.cmpi .slt (BitVec.ofNat 32 (ent x).val) (ln (ix2 r 0)) = 1#1 := by
      by_contra hc
      unfold pages at hg
      rw [if_neg hc] at hg
      exact absurd hg.symm (Option.some_ne_none g)
    unfold pages at hg
    rw [if_pos hc, Option.some.injEq] at hg
    show V (ix4 (row bt r (ent x)) (plc x) h d) = _
    rw [row_named bt r (ent x) (hn _ hc), hv, ← hg]
  · have e : ent ⟨0, by decide⟩ = 0 := by decide
    rw [e]
    exact first_named _ _ h1

end Cert.PagedRef
-- ==== Proof.Usable.lean ====
module

public import proofs.«01_k».proof.Defs
public import proofs.«01_k».proof.Proof.Setup
public import Idealize.ShloMosaic.Lib.Pointwise
public import Idealize.ShloMosaic.Lib.VecWindow
public import Idealize.ShloMosaic.PureOps.Ideal.Laws

@[expose] public section

noncomputable section

namespace Cert.Usable

open Idealize.ShloMosaic
open Cert.Pre_usable_KernelIdeal

/-! # What the precondition says, entry by entry -/

instance facts : Cert.Pre_usable_KernelIdeal.Facts where
  bcast_S256_S1x256_1 := by decide
  bcast_S1x256_S32x256_0_1 := by decide
  bcast_S32x1_S32x256_0_1 := by decide
  bcast_S_S32x1x16x128 := by decide
  bcast_S_S256x32x16x128 := by decide
  bcast_S_S32x256 := by decide
  bcast_S_S32x1 := by decide

instance refFacts : Cert.Pre_usable_ReferenceIdeal.Facts where
  bcast_S256_S1x256_1 := by decide
  bcast_S1x256_S32x256_0_1 := by decide
  bcast_S32x1_S32x256_0_1 := by decide
  bcast_S_S32x1x16x128 := by decide
  bcast_S_S1024x32x16x128 := by decide
  bcast_S_S32x256 := by decide
  bcast_S_S32x1 := by decide

/-- Below the top element in absolute value: a real number. -/
theorem real_of_abs (x : EReal) (h : FloatOps.cmpf (F := Ideal) (φ := .f32) .olt (FloatOps.absf (F := Ideal) (φ := .f32) x) (Ideal.ofBits FTy.f32 0x7F800000#32) = 1#1) :
    x = ((x.toReal : ℝ) : EReal) := by
  rw [Cert.Setup.top_word] at h
  refine (EReal.coe_toReal ?_ ?_).symm
  · rintro rfl
    revert h
    simp [FloatOps.cmpf, FloatOps.absf, Ideal.cmp]
  · rintro rfl
    revert h
    simp [FloatOps.cmpf, FloatOps.absf, Ideal.cmp]

variable (Q : FVec Ideal S32x1x16x128 .f32) (K V : FVec Ideal S256x32x16x128 .f32) (bt : IVec S32x256 32) (ln : IVec S32x1 32)

theorem q_real (h : (fn (F := Ideal) Q K V bt ln).1 = fun _ => 1#1) (r : Fin 32) (a : Fin 16) (d : Fin 128) :
    Q (ix4 r 0 a d) = (((Q (ix4 r 0 a d) : EReal).toReal : ℝ) : EReal) := by
  refine real_of_abs _ ?_
  have e := congrFun h (ix4 r 0 a d)
  unfold fn at e
  rw [← e]
  pointwise

theorem k_real (h : (fn (F := Ideal) Q K V bt ln).2.1 = fun _ => 1#1) (g : Fin 256) (t : Fin 32) (a : Fin 16) (d : Fin 128) :
    K (ix4 g t a d) = (((K (ix4 g t a d) : EReal).toReal : ℝ) : EReal) := by
  refine real_of_abs _ ?_
  have e := congrFun h (ix4 g t a d)
  unfold fn at e
  rw [← e]
  pointwise

theorem len_pos (h : (fn (F := Ideal) Q K V bt ln).2.2.2 = fun _ => 1#1) (r : Fin 32) : IntOp.cmpi .sge (ln (ix2 r 0)) 1#32 = 1#1 := by
  have e := congrFun h (ix2 r 0)
  unfold fn at e
  rw [← e]
  pointwise

theorem table_word (h : (fn (F := Ideal) Q K V bt ln).2.2.1 = fun _ => 1#1) (r : Fin 32) (j : Fin 256) :
    IntOp.ori (IntOp.cmpi .sge (BitVec.ofNat 32 j.val) (ln (ix2 r 0)))
      (IntOp.andi (IntOp.cmpi .sge (bt (ix2 r j)) 0#32) (IntOp.cmpi .slt (bt (ix2 r j)) 1024#32)) = 1#1 := by
  have e := congrFun h (ix2 r j)
  unfold fn at e
  rw [← e]
  pointwise

theorem named (h : (fn (F := Ideal) Q K V bt ln).2.2.1 = fun _ => 1#1) (r : Fin 32) : Cert.Setup.Named (fun j => bt (ix2 r j)) (ln (ix2 r 0)) := by
  intro j hj
  have e := table_word Q K V bt ln h r j
  have hb : ∀ b : Bool, BitVec.ofBool b = 1#1 ↔ b = true := by decide
  have ho : ∀ a b : BitVec 1, IntOp.ori a b = 1#1 ↔ a = 1#1 ∨ b = 1#1 := by decide
  have ha : ∀ a b : BitVec 1, IntOp.andi a b = 1#1 ↔ a = 1#1 ∧ b = 1#1 := by decide
  rw [ho, ha] at e
  simp only [IntOp.cmpi] at e hj
  rw [hb, BitVec.slt_iff_toInt_lt] at hj
  rw [hb, hb, hb, BitVec.sle_iff_toInt_le, BitVec.sle_iff_toInt_le, BitVec.slt_iff_toInt_lt] at e
  have e1 : (1024#32).toInt = 1024 := by decide
  have e0 : (0#32).toInt = 0 := by decide
  rcases e with e | ⟨l, u⟩
  · omega
  · show (bt (ix2 r j)).toNat < 1024
    have := (bt (ix2 r j)).isLt
    have ht := BitVec.toInt_eq_toNat_cond (bt (ix2 r j))
    split at ht <;> omega

end Cert.Usable

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Start
public import proofs.«01_k».proof.Proof.Value
public import proofs.«01_k».proof.Proof.RefValue
public import proofs.«01_k».proof.Proof.Usable
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Over any float values, every execution of the kernel ends with the arguments unchanged and the counters at zero. -/
theorem args_kept {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c =>
      ⟨(h.1 c 0).trans ((Cert.Paged.dats m 0 c).arrAt_in 0 rfl _), (h.1 c 1).trans ((Cert.Paged.dats m 0 c).arrAt_in 1 rfl _),
        (h.1 c 2).trans ((Cert.Paged.dats m 0 c).arrAt_in 2 rfl _), (h.1 c 3).trans ((Cert.Paged.dats m 0 c).arrAt_in 3 rfl _),
        (h.1 c 4).trans ((Cert.Paged.dats m 0 c).arrAt_in 4 rfl _)⟩, h.2⟩)
    (Cert.Paged.run_main (F := F) m ρ)

/-- Machine floats read a named constant as its word. -/
@[reducible] def words : Named Bits where
  named _ _ {φ} bits := FloatOps.ofBits φ bits

/-- The two printed body tables agree where a named constant is its word. -/
theorem bodies_eq : (Cert.Kernel.defs₀ (F := Bits)) = @Cert.KernelIdeal.defs₀ Bits _ words _ := by
  unfold Cert.Kernel.defs₀ Cert.KernelIdeal.defs₀
  refine congrArg Defs.onTc ?_
  funext l args
  match l, args with
  | 0, (t, s) => exact rfl

/-- The two printed tables with the pipeline's own labels agree. -/
theorem tables_eq : (Cert.Kernel.defs (F := Bits)) = @Cert.KernelIdeal.defs Bits _ words _ :=
  congrArg (Pipeline.defs (Cert.KernelIdeal.pcfgs (F := Bits))) bodies_eq

/-- The kernel at machine floats. -/
theorem frame_kernel : Cert.quiescent_Kernel := fun m ρ _ => by
  have h := @args_kept Bits _ words m ρ
  rw [← tables_eq] at h
  exact h

/-- The kernel over the extended reals. -/
theorem frame_kernelIdeal : Cert.quiescent_KernelIdeal := fun m ρ _ => args_kept (F := Ideal) m ρ

/-- The reference is a straight-line host program with no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same frame where the arguments are also usable. -/
theorem frame_kernelIdeal_usable : Cert.quiescent_KernelIdeal_pre_usable_KernelIdeal := fun m ρ _ => args_kept (F := Ideal) m ρ

theorem frame_referenceIdeal_usable : Cert.quiescent_ReferenceIdeal_pre_usable_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel's one named constant is the real number it stands for. -/
theorem preserves : Cert.preserves_Kernel_KernelIdeal :=
  IdealRules.named_const.statement Cert.KernelIdeal.κ "scale" .f32 0x3DB504F3#32 (((Real.sqrt 128)⁻¹ : ℝ) : EReal) rfl

/-! ## The results agree -/

open Cert.Paged (outC zc whole Holds)

theorem z_block : ∀ c : Dev Cert.KernelIdeal.nD,
    ((Layout.meshBlock (r := 4) [2, 2, 4] ![[2], [], [], []] c) 0).val = c.val % 4 := by decide +kernel

/-- An element of a device's block of pages, in the whole array. -/
theorem block_at (X : Shape.Idx ⟨4, ![1024, 32, 16, 128]⟩ → EReal) (c : Dev Cert.KernelIdeal.nD) (g : Fin 256) (t : Fin 32) (h : Fin 16) (d : Fin 128) :
    (Layout.blockN ⟨4, ![256, 32, 16, 128]⟩ ⟨4, ![1024, 32, 16, 128]⟩ (Layout.meshBlock [2, 2, 4] ![[2], [], [], []] c) X) (ix4 g t h d)
      = X (ix4 (whole (zc c) g) t h d) := by
  rw [Layout.blockN_apply]
  refine congrArg X (funext fun a => Fin.ext ?_)
  exact match a with
  | 0 => (by
    have e := z_block c
    show ((Layout.meshBlock (r := 4) [2, 2, 4] ![[2], [], [], []] c) 0).val * 256 + g.val = 256 * (c.val % 4) + g.val
    rw [e]
    omega)
  | 1 => (by show 0 * 32 + t.val = t.val; omega)
  | 2 => (by show 0 * 16 + h.val = h.val; omega)
  | 3 => (by show 0 * 128 + d.val = d.val; omega)

/-- A device that holds page `g`. -/
def owner (g : Fin 1024) : Dev Cert.KernelIdeal.nD := ⟨g.val / 256, by show g.val / 256 < 16; omega⟩
def place (g : Fin 1024) : Fin 256 := ⟨g.val % 256, Nat.mod_lt _ (by decide)⟩
theorem owner_place (g : Fin 1024) : whole (zc (owner g)) (place g) = g :=
  Fin.ext (by
    show 256 * (g.val / 256 % 4) + g.val % 256 = g.val
    omega)

theorem index_split (i : Cert.KernelIdeal.S32x1x16x128.Idx) : i = ix4 (i 0 : Fin 32) (0 : Fin 1) (i 2 : Fin 16) (i 3 : Fin 128) := by
  funext a
  exact match a with
  | 0 => rfl
  | 1 => Subsingleton.elim (α := Fin 1) _ _
  | 2 => rfl
  | 3 => rfl

section
variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (Q : Vec Ideal Cert.KernelIdeal.S32x1x16x128 .f32) (K V : Vec Ideal Cert.ReferenceIdeal.S1024x32x16x128 .f32)
    (bt : Vec Ideal Cert.KernelIdeal.S32x256 .i32) (ln : Vec Ideal Cert.KernelIdeal.S32x1 .i32)

/-- Usable arguments, cut over the devices as stated, are what the kernel's side reads. -/
theorem holds (hp : Cert.Pre_KernelIdeal_usable_KernelIdeal m)
    (hs : ∀ c : Dev Cert.KernelIdeal.nD,
      m ((c.tc : Thread Cert.KernelIdeal.nD Cert.KernelIdeal.τ).loc Cert.KernelIdeal.main_arg0) = Q
      ∧ m ((c.tc : Thread Cert.KernelIdeal.nD Cert.KernelIdeal.τ).loc Cert.KernelIdeal.main_arg1) = Layout.blockN ⟨4, ![256, 32, 16, 128]⟩ ⟨4, ![1024, 32, 16, 128]⟩ (Layout.meshBlock [2, 2, 4] ![[2], [], [], []] c) K
      ∧ m ((c.tc : Thread Cert.KernelIdeal.nD Cert.KernelIdeal.τ).loc Cert.KernelIdeal.main_arg2) = Layout.blockN ⟨4, ![256, 32, 16, 128]⟩ ⟨4, ![1024, 32, 16, 128]⟩ (Layout.meshBlock [2, 2, 4] ![[2], [], [], []] c) V
      ∧ m ((c.tc : Thread Cert.KernelIdeal.nD Cert.KernelIdeal.τ).loc Cert.KernelIdeal.main_arg3) = bt
      ∧ m ((c.tc : Thread Cert.KernelIdeal.nD Cert.KernelIdeal.τ).loc Cert.KernelIdeal.main_arg4) = ln) :
    (∀ r h d, Q (ix4 r 0 h d) = (((Q (ix4 r 0 h d) : EReal).toReal : ℝ) : EReal))
      ∧ (∀ g t h d, K (ix4 g t h d) = (((K (ix4 g t h d) : EReal).toReal : ℝ) : EReal))
      ∧ (∀ r, Cert.Setup.Named (fun j => bt (ix2 r j)) (ln (ix2 r 0)))
      ∧ (∀ r, IntOp.cmpi .sge (ln (ix2 r 0)) 1#32 = 1#1)
      ∧ Holds m (fun r h d => (Q (ix4 r 0 h d) : EReal).toReal) (fun g t h d => (K (ix4 g t h d) : EReal).toReal) (fun g t h d => V (ix4 g t h d))
        (fun r j => bt (ix2 r j)) (fun r => ln (ix2 r 0)) := by
  have fq : ∀ r h d, Q (ix4 r 0 h d) = (((Q (ix4 r 0 h d) : EReal).toReal : ℝ) : EReal) := by
    intro r h d
    have e := (hp 0).1
    rw [(hs 0).1] at e
    exact Cert.Usable.q_real _ _ _ _ _ e r h d
  have fk : ∀ g t h d, K (ix4 g t h d) = (((K (ix4 g t h d) : EReal).toReal : ℝ) : EReal) := by
    intro g t h d
    have e := Cert.Usable.k_real _ _ _ _ _ (hp (owner g)).2.1 (place g) t h d
    have e1 := congrFun (hs (owner g)).2.1 (ix4 (place g) t h d)
    rw [block_at, owner_place] at e1
    rw [← e1]
    exact e
  have fn : ∀ r, Cert.Setup.Named (fun j => bt (ix2 r j)) (ln (ix2 r 0)) := by
    intro r
    have e := (hp 0).2.2.1
    rw [(hs 0).2.2.2.1, (hs 0).2.2.2.2] at e
    exact Cert.Usable.named _ _ _ _ _ e r
  have f1 : ∀ r, IntOp.cmpi .sge (ln (ix2 r 0)) 1#32 = 1#1 := by
    intro r
    have e := (hp 0).2.2.2
    rw [(hs 0).2.2.2.2] at e
    exact Cert.Usable.len_pos _ _ _ _ _ e r
  refine ⟨fq, fk, fn, f1, ⟨fun c r h d => ?_, fun c g t h d => ?_, fun c g t h d => ?_, fun c r j => ?_, fun c r => ?_, fn⟩⟩
  · exact (congrFun (hs c).1 (ix4 r 0 h d)).trans (fq r h d)
  · exact (congrFun (hs c).2.1 (ix4 g t h d)).trans ((block_at K c g t h d).trans (fk _ t h d))
  · exact (congrFun (hs c).2.2.1 (ix4 g t h d)).trans (block_at V c g t h d)
  · exact congrFun (hs c).2.2.2.1 (ix2 r j)
  · exact congrFun (hs c).2.2.2.2 (ix2 r 0)

end

/-- Every device's result is the reference's. -/
theorem result_agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_usable_KernelIdeal m)
    (hs : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![1024, 32, 16, 128]⟩ (Layout.meshBlock [2, 2, 4] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![1024, 32, 16, 128]⟩ (Layout.meshBlock [2, 2, 4] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4))
    (c : Dev Cert.KernelIdeal.nD) : outC m c = Cert.ReferenceIdeal.Value.res_main_v38 m' 0 := by
  obtain ⟨fq, fk, fn, f1, H⟩ := holds m _ _ _ _ _ hp hs
  funext i
  rw [index_split i]
  obtain ⟨μ, e⟩ := Cert.Paged.outC_at H c (i 0) (i 2) (i 3)
  refine e.trans ?_
  exact (Cert.PagedRef.ref_at m' 0 (i 0) (i 2) (i 3) _ _ _ _ _ rfl rfl rfl rfl rfl fq fk (fun _ _ _ _ => rfl) (fn (i 0)) (f1 (i 0)) μ).symm

theorem algebraic : Cert.algebraic_KernelIdeal_ReferenceIdeal_pre_usable_KernelIdeal := fun m g m' g' hp hs =>
  ⟨Cert.ReferenceIdeal.Value.res_main_v38 m' 0,
    (θ_run Cert.KernelIdeal.defs _ _).mono (fun _ h c =>
        ⟨((h.1 c 5).trans (Cert.Paged.result_eq m c)).trans (result_agrees m m' hp hs c),
          (h.1 c 0).trans ((Cert.Paged.dats m 0 c).arrAt_in 0 rfl _), (h.1 c 1).trans ((Cert.Paged.dats m 0 c).arrAt_in 1 rfl _),
          (h.1 c 2).trans ((Cert.Paged.dats m 0 c).arrAt_in 2 rfl _), (h.1 c 3).trans ((Cert.Paged.dats m 0 c).arrAt_in 3 rfl _),
          (h.1 c 4).trans ((Cert.Paged.dats m 0 c).arrAt_in 4 rfl _)⟩)
      (Cert.Paged.run_main (F := Ideal) m g),
    (θ_run Cert.ReferenceIdeal.defs _ _).mono (fun _ h => h 0) (Cert.ReferenceIdeal.Value.run (F := Ideal) m' g')⟩

/-- The claims together. -/
theorem claim : Cert.Claim :=
  ⟨Cert.Kernel.Gen.facts, Cert.KernelIdeal.Gen.facts, Cert.ReferenceIdeal.Gen.facts, Cert.Usable.facts, Cert.Usable.refFacts,
    frame_kernel, frame_kernelIdeal, frame_kernelIdeal_usable, frame_referenceIdeal, frame_referenceIdeal_usable, preserves, algebraic⟩

end Cert.Proof

end
